-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_att [hPre_finite_att : Cert.Pre_finite_att.Facts] (m : (ℓ : Loc Cert.KernelIdeal.nD Cert.KernelIdeal.τ Cert.KernelIdeal.sig) → Buf (Elt Ideal) ℓ) : Prop :=
  ∀ c : Dev Cert.KernelIdeal.nD,
    (Cert.Pre_finite_att.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_att [hPre_finite_att : Cert.Pre_finite_att.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_att.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MoeDown [hPre_tables_down : Cert.Pre_tables_down.Facts] (m : (ℓ : Loc Cert.MoeDown.nD Cert.MoeDown.τ Cert.MoeDown.sig) → Buf (Elt Bits) ℓ) : Prop :=
  ∀ c : Dev Cert.MoeDown.nD,
    (Cert.Pre_tables_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))) = (fun _ => 1#1)

def Pre_MoeDownIdeal [hPre_tables_down : Cert.Pre_tables_down.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_tables_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))) = (fun _ => 1#1)

def Pre_MoeDownRefIdeal (m : (ℓ : Loc Cert.MoeDownRefIdeal.nD Cert.MoeDownRefIdeal.τ Cert.MoeDownRefIdeal.sig) → Buf (Elt Ideal) ℓ) : Prop :=
  True

def Pre_MoeDownRefIdeal_tables_down [hPre_tables_down : Cert.Pre_tables_down.Facts] (m : (ℓ : Loc Cert.MoeDownRefIdeal.nD Cert.MoeDownRefIdeal.τ Cert.MoeDownRefIdeal.sig) → Buf (Elt Ideal) ℓ) : Prop :=
  ∀ c : Dev Cert.MoeDownRefIdeal.nD,
    (Cert.Pre_tables_down.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_att [hKernelIdeal : Cert.KernelIdeal.Facts] [hPre_finite_att : Cert.Pre_finite_att.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_att m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_att [hReferenceIdeal : Cert.ReferenceIdeal.Facts] [hPre_finite_att : Cert.Pre_finite_att.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_att m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_MoeDown [hMoeDown : Cert.MoeDown.Facts] [hPre_tables_down : Cert.Pre_tables_down.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3))
      ∧ r.2.sem = fun _ => 0)

def quiescent_MoeDownIdeal [hMoeDownIdeal : Cert.MoeDownIdeal.Facts] [hPre_tables_down : Cert.Pre_tables_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0)

def quiescent_MoeDownRefIdeal [hMoeDownRefIdeal : Cert.MoeDownRefIdeal.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_MoeDownRefIdeal_pre_tables_down [hMoeDownRefIdeal : Cert.MoeDownRefIdeal.Facts] [hPre_tables_down : Cert.Pre_tables_down.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal_tables_down m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def preserves_Kernel_KernelIdeal : Prop :=
  True

def algebraic_KernelIdeal_ReferenceIdeal_pre_finite_att [hKernelIdeal : Cert.KernelIdeal.Facts] [hReferenceIdeal : Cert.ReferenceIdeal.Facts] [hPre_finite_att : Cert.Pre_finite_att.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_att m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v69) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v44)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v44) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v51) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v27) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v8)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v20) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_MoeDown_MoeDownIdeal : Prop :=
  True

def algebraic_MoeDownIdeal_MoeDownRefIdeal [hMoeDownIdeal : Cert.MoeDownIdeal.Facts] [hMoeDownRefIdeal : Cert.MoeDownRefIdeal.Facts] [hPre_tables_down : Cert.Pre_tables_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)) →
    ∃ (v0 : (c : Dev Cert.MoeDownIdeal.nD) → Buf (Elt Ideal) ((c.tc : Thread Cert.MoeDownIdeal.nD Cert.MoeDownIdeal.τ).loc Cert.MoeDownIdeal.main_v1)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v1) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v16) = v0 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hMoeDown : Cert.MoeDown.Facts) (hMoeDownIdeal : Cert.MoeDownIdeal.Facts) (hMoeDownRefIdeal : Cert.MoeDownRefIdeal.Facts) (hPre_finite_att : Cert.Pre_finite_att.Facts) (hPre_tables_down : Cert.Pre_tables_down.Facts),
    quiescent_Kernel (hKernel := hKernel)
    ∧ quiescent_KernelIdeal (hKernelIdeal := hKernelIdeal)
    ∧ quiescent_KernelIdeal_pre_finite_att (hKernelIdeal := hKernelIdeal) (hPre_finite_att := hPre_finite_att)
    ∧ quiescent_ReferenceIdeal (hReferenceIdeal := hReferenceIdeal)
    ∧ quiescent_ReferenceIdeal_pre_finite_att (hReferenceIdeal := hReferenceIdeal) (hPre_finite_att := hPre_finite_att)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MoeDown (hMoeDown := hMoeDown) (hPre_tables_down := hPre_tables_down)
    ∧ quiescent_MoeDownIdeal (hMoeDownIdeal := hMoeDownIdeal) (hPre_tables_down := hPre_tables_down)
    ∧ quiescent_MoeDownRefIdeal (hMoeDownRefIdeal := hMoeDownRefIdeal)
    ∧ quiescent_MoeDownRefIdeal_pre_tables_down (hMoeDownRefIdeal := hMoeDownRefIdeal) (hPre_tables_down := hPre_tables_down)
    ∧ preserves_Kernel_KernelIdeal
    ∧ algebraic_KernelIdeal_ReferenceIdeal_pre_finite_att (hKernelIdeal := hKernelIdeal) (hReferenceIdeal := hReferenceIdeal) (hPre_finite_att := hPre_finite_att)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_MoeDown_MoeDownIdeal
    ∧ algebraic_MoeDownIdeal_MoeDownRefIdeal (hMoeDownIdeal := hMoeDownIdeal) (hMoeDownRefIdeal := hMoeDownRefIdeal) (hPre_tables_down := hPre_tables_down)
-- ==== Pre_finite_att.lean ====
abbrev S16384x1024 : Shape := ⟨2, ![16384, 1024]⟩
abbrev S16384x256 : Shape := ⟨2, ![16384, 256]⟩
abbrev S17408x14080 : Shape := ⟨2, ![17408, 14080]⟩
abbrev S8 : Shape := ⟨1, ![8]⟩
abbrev S_ : Shape := ⟨0, ![]⟩
abbrev S1024x256 : Shape := ⟨2, ![1024, 256]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  slices_S17408x14080_S1024x256_16384_12288 : S17408x14080.Slices ![16384, 12288] S1024x256
  bcast_S_S1024x256 : S_.BroadcastsInDim S1024x256 (![] : Fin 0 → Fin S1024x256.rank)
  reducesTo_S1024x256_S_d0_1 : S1024x256.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v16 : IVec S_ 1) (main_v17 : FVec F S8 .f32) : IVec S_ 1 :=
  let main_cst_4 : FVec F S_ .f32 := constant S_ .f32 0x7F800000#32
  let main_v18 : FVec F S8 .f32 := broadcastInDim S8 ![] bcast_S_S8 main_cst_4
  let main_v19 : IVec S8 1 := cmpf .olt main_v17 main_v18
  let main_c_5 : IVec S_ 1 := constantI S_ 1 1#1
  let main_v20 : IVec S_ 1 := (fun x v => Host.reduce IntOp.andi x v reducesTo_S8_S_d0 h_S_) main_v19 main_c_5
  let main_v21 : IVec S_ 1 := andi main_v16 main_v20
  main_v21

def fn {F : FTy → Type} [FloatOps F] (main_arg0 : FVec F S16384x1024 .bf16) (main_arg1 : FVec F S16384x256 .bf16) (main_arg2 : FVec F S17408x14080 .f32) (main_arg3 : FVec F S8 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x256 .f32 := (extf .f32 · bitsLt_bf16_f32) main_arg1
  let main_v6 : FVec F S16384x256 .f32 := Host.absf main_v5
  let main_cst_0 : FVec F S_ .f32 := constant S_ .f32 0x7F800000#32
  let main_v7 : FVec F S16384x256 .f32 := broadcastInDim S16384x256 ![] bcast_S_S16384x256 main_cst_0
  let main_v8 : IVec S16384x256 1 := cmpf .olt main_v6 main_v7
  let main_c_1 : IVec S_ 1 := constantI S_ 1 1#1
  let main_v9 : IVec S_ 1 := (fun x v => Host.reduce IntOp.andi x v reducesTo_S16384x256_S_d0_1 h_S_) main_v8 main_c_1
  let main_v10 : IVec S_ 1 := andi main_v4 main_v9
  let main_v11 : FVec F S1024x256 .f32 := (extractStridedSlice S1024x256 ![16384, 12288] · slices_S17408x14080_S1024x256_16384_12288) main_arg2
  let main_v12 : FVec F S1024x256 .f32 := Host.absf main_v11
  let main_cst_2 : FVec F S_ .f32 := constant S_ .f32 0x7F800000#32
  let main_v13 : FVec F S1024x256 .f32 := broadcastInDim S1024x256 ![] bcast_S_S1024x256 main_cst_2
  let main_v14 : IVec S1024x256 1 := cmpf .olt main_v12 main_v13
  let main_c_3 : IVec S_ 1 := constantI S_ 1 1#1
  let main_v15 : IVec S_ 1 := (fun x v => Host.reduce IntOp.andi x v reducesTo_S1024x256_S_d0_1 h_S_) main_v14 main_c_3
  let main_v16 : IVec S_ 1 := andi main_v10 main_v15
  let main_v17 : FVec F S8 .f32 := Host.absf main_arg3
  fn_part1 (F := F) main_v16 main_v17
-- ==== Pre_tables_down.lean ====
abbrev S36864x7168 : Shape := ⟨2, ![36864, 7168]⟩
abbrev S8x7168x2048 : Shape := ⟨3, ![8, 7168, 2048]⟩
abbrev S72 : Shape := ⟨1, ![72]⟩
abbrev S1 : Shape := ⟨1, ![1]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  shapeCasts_S1_S_ : S1.ShapeCasts S_

variable [Facts]

def fn {F : FTy → Type} [FloatOps F] (main_arg0 : FVec F S36864x7168 .bf16) (main_arg1 : FVec F S8x7168x2048 .f32) (main_arg2 : IVec S72 32) (main_arg3 : IVec S1 32) : IVec S_ 1 :=
  let main_c : IVec S_ 32 := constantI S_ 32 0#32
  let main_v0 : IVec S72 32 := broadcastInDim S72 ![] bcast_S_S72 main_c
  let main_v1 : IVec S72 1 := cmpi .sge main_arg2 main_v0
  let main_c_0 : IVec S_ 32 := constantI S_ 32 8#32
  let main_v2 : IVec S72 32 := broadcastInDim S72 ![] bcast_S_S72 main_c_0
  let main_v3 : IVec S72 1 := cmpi .slt main_arg2 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_v6 : IVec S_ 32 := shapeCast S_ main_arg3 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg3 shapeCasts_S1_S_
  let main_c_3 : IVec S_ 32 := constantI S_ 32 72#32
  let main_v10 : IVec S_ 1 := cmpi .sle main_v9 main_c_3
  let main_v11 : IVec S_ 1 := andi main_v8 main_v10
  main_v11
-- ==== Kernel.lean ====
abbrev S16384x1024 : Shape := ⟨2, ![16384, 1024]⟩
abbrev S16384x256 : Shape := ⟨2, ![16384, 256]⟩
abbrev S17408x14080 : Shape := ⟨2, ![17408, 14080]⟩
abbrev S8 : Shape := ⟨1, ![8]⟩
abbrev S128x1024 : Shape := ⟨2, ![128, 1024]⟩
abbrev S128x256 : Shape := ⟨2, ![128, 256]⟩
abbrev S256x256 : Shape := ⟨2, ![256, 256]⟩
abbrev S512x384 : Shape := ⟨2, ![512, 384]⟩
abbrev S128x128 : Shape := ⟨2, ![128, 128]⟩
abbrev S384x128 : Shape := ⟨2, ![384, 128]⟩
abbrev S256x128 : Shape := ⟨2, ![256, 128]⟩
abbrev S512x128 : Shape := ⟨2, ![512, 128]⟩
abbrev S512x256 : Shape := ⟨2, ![512, 256]⟩
abbrev S512x1 : Shape := ⟨2, ![512, 1]⟩
abbrev S1 : Shape := ⟨1, ![1]⟩
abbrev S512 : Shape := ⟨1, ![512]⟩

abbrev nBuf : Space → Nat
  | .hbm => 5
  | .vmem => 20
  | .smem => 1
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S17408x14080, .f32⟩
  | .hbm, ⟨3, _⟩ => ⟨S8, .f32⟩
  | .hbm, ⟨4, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S128x1024, .bf16⟩
  | .local _ .vmem, ⟨19, _⟩ => ⟨S128x1024, .bf16⟩
  | .local _ .smem, ⟨0, _⟩ => ⟨S8, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c_m1_i32 : BitVec 32 := 4294967295#32
  let v1 : BitVec 32 := Scalar.addi arg1 c_m1_i32
  let c0_i32 : BitVec 32 := 0#32
  let c31_i32 : BitVec 32 := 31#32
  let v2 : BitVec 32 := Scalar.maxsi c0_i32 v1
  let v3 : BitVec 32 := Scalar.minsi c31_i32 v2
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi arg1 c0_i32
  let c0_i32_0 : BitVec 32 := 0#32
  let c31_i32 : BitVec 32 := 31#32
  let v2 : BitVec 32 := Scalar.maxsi c0_i32_0 v1
  let v3 : BitVec 32 := Scalar.minsi c31_i32 v2
  let v4 : BitVec 32 := Scalar.addi v0 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c0_i32 : BitVec 32 := 0#32
  let c31_i32 : BitVec 32 := 31#32
  let v2 : BitVec 32 := Scalar.maxsi c0_i32 v1
  let v3 : BitVec 32 := Scalar.minsi c31_i32 v2
  let v4 : BitVec 32 := Scalar.addi v0 v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c_m1_i32 : BitVec 32 := 4294967295#32
  let v1 : BitVec 32 := Scalar.addi arg1 c_m1_i32
  let c0_i32 : BitVec 32 := 0#32
  let c31_i32 : BitVec 32 := 31#32
  let v2 : BitVec 32 := Scalar.maxsi c0_i32 v1
  let v3 : BitVec 32 := Scalar.minsi c31_i32 v2
  let v4 : BitVec 32 := Scalar.addi v0 v3
  let c49_i32 : BitVec 32 := 49#32
  let c0_i32_0 : BitVec 32 := 0#32
  ![v4.toNat, c49_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi arg1 c0_i32
  let c0_i32_0 : BitVec 32 := 0#32
  let c31_i32 : BitVec 32 := 31#32
  let v2 : BitVec 32 := Scalar.maxsi c0_i32_0 v1
  let v3 : BitVec 32 := Scalar.minsi c31_i32 v2
  let v4 : BitVec 32 := Scalar.addi v0 v3
  let c49_i32 : BitVec 32 := 49#32
  let c0_i32_1 : BitVec 32 := 0#32
  ![v4.toNat, c49_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c0_i32 : BitVec 32 := 0#32
  let c31_i32 : BitVec 32 := 31#32
  let v2 : BitVec 32 := Scalar.maxsi c0_i32 v1
  let v3 : BitVec 32 := Scalar.minsi c31_i32 v2
  let v4 : BitVec 32 := Scalar.addi v0 v3
  let c49_i32 : BitVec 32 := 49#32
  let c0_i32_0 : BitVec 32 := 0#32
  ![v4.toNat, c49_i32.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c48_i32 : BitVec 32 := 48#32
  let c0_i32 : BitVec 32 := 0#32
  ![v0.toNat, c48_i32.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c49_i32 : BitVec 32 := 49#32
  let c0_i32 : BitVec 32 := 0#32
  ![v0.toNat, c49_i32.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16384x1024 : Shape := ⟨2, ![16384, 1024]⟩
abbrev S16384x256 : Shape := ⟨2, ![16384, 256]⟩
abbrev S17408x14080 : Shape := ⟨2, ![17408, 14080]⟩
abbrev S8 : Shape := ⟨1, ![8]⟩
abbrev S4x4096x2x4x128 : Shape := ⟨5, ![4, 4096, 2, 4, 128]⟩
abbrev S4x4096x2x128 : Shape := ⟨4, ![4, 4096, 2, 128]⟩
abbrev S1024x256 : Shape := ⟨2, ![1024, 256]⟩
abbrev S4x256x2x128 : Shape := ⟨4, ![4, 256, 2, 128]⟩
abbrev S2x4 : Shape := ⟨2, ![2, 4]⟩
abbrev S4x32x128x2x4x128 : Shape := ⟨6, ![4, 32, 128, 2, 4, 128]⟩
abbrev S_ : Shape := ⟨0, ![]⟩
abbrev S4x4352x2x128 : Shape := ⟨4, ![4, 4352, 2, 128]⟩
abbrev S4x34x128x2x128 : Shape := ⟨5, ![4, 34, 128, 2, 128]⟩
abbrev S4x32x128x2x128 : Shape := ⟨5, ![4, 32, 128, 2, 128]⟩
abbrev S4x32x384x2x128 : Shape := ⟨5, ![4, 32, 384, 2, 128]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S384 : Shape := ⟨1, ![384]⟩
abbrev S1x1x384 : Shape := ⟨3, ![1, 1, 384]⟩
abbrev S32x1x384 : Shape := ⟨3, ![32, 1, 384]⟩
abbrev S32x128x384 : Shape := ⟨3, ![32, 128, 384]⟩
abbrev S4x2x32x384x128x4 : Shape := ⟨6, ![4, 2, 32, 384, 128, 4]⟩
abbrev S4x2x4x32x128x384 : Shape := ⟨6, ![4, 2, 4, 32, 128, 384]⟩
abbrev S4x2x256x32x128x4 : Shape := ⟨6, ![4, 2, 256, 32, 128, 4]⟩
abbrev S4x2x4x32x128x256 : Shape := ⟨6, ![4, 2, 4, 32, 128, 256]⟩
abbrev S1x2x4x1x1x1 : Shape := ⟨6, ![1, 2, 4, 1, 1, 1]⟩
abbrev S4x2x4x32x128x1 : Shape := ⟨6, ![4, 2, 4, 32, 128, 1]⟩
abbrev S4x2x4x32x128x641 : Shape := ⟨6, ![4, 2, 4, 32, 128, 641]⟩
abbrev S4x2x4x32x128 : Shape := ⟨5, ![4, 2, 4, 32, 128]⟩
abbrev S4x32x2x128x4x128 : Shape := ⟨6, ![4, 32, 2, 128, 4, 128]⟩
abbrev S4x2x128x4x32x128 : Shape := ⟨6, ![4, 2, 128, 4, 32, 128]⟩

abbrev nBuf : Space → Nat
  | .hbm => 108
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S17408x14080, .f32⟩
  | .hbm, ⟨3, _⟩ => ⟨S8, .f32⟩
  | .hbm, ⟨4, _⟩ => ⟨S16384x1024, .f32⟩
  | .hbm, ⟨5, _⟩ => ⟨S4x4096x2x4x128, .f32⟩
  | .hbm, ⟨6, _⟩ => ⟨S16384x256, .f32⟩
  | .hbm, ⟨7, _⟩ => ⟨S4x4096x2x128, .f32⟩
  | .hbm, ⟨8, _⟩ => ⟨S16384x256, .f32⟩
  | .hbm, ⟨9, _⟩ => ⟨S4x4096x2x128, .f32⟩
  | .hbm, ⟨10, _⟩ => ⟨S1024x256, .f32⟩
  | .hbm, ⟨11, _⟩ => ⟨S4x256x2x128, .f32⟩
  | .hbm, ⟨12, _⟩ => ⟨S1024x256, .f32⟩
  | .hbm, ⟨13, _⟩ => ⟨S4x256x2x128, .f32⟩
  | .hbm, ⟨14, _⟩ => ⟨S2x4, .f32⟩
  | .hbm, ⟨15, _⟩ => ⟨S4x32x128x2x4x128, .f32⟩
  | .hbm, ⟨16, _⟩ => ⟨S_, .i32⟩
  | .hbm, ⟨17, _⟩ => ⟨S_, .f32⟩
  | .hbm, ⟨18, _⟩ => ⟨S4x4352x2x128, .f32⟩
  | .hbm, ⟨19, _⟩ => ⟨S4x34x128x2x128, .f32⟩
  | .hbm, ⟨20, _⟩ => ⟨S4x32x128x2x128, .f32⟩
  | .hbm, ⟨21, _⟩ => ⟨S4x32x128x2x128, .f32⟩
  | .hbm, ⟨22, _⟩ => ⟨S4x32x128x2x128, .f32⟩
  | .hbm, ⟨23, _⟩ => ⟨S4x32x384x2x128, .f32⟩
  | .hbm, ⟨24, _⟩ => ⟨S_, .i32⟩
  | .hbm, ⟨25, _⟩ => ⟨S_, .f32⟩
  | .hbm, ⟨26, _⟩ => ⟨S4x4352x2x128, .f32⟩
  | .hbm, ⟨27, _⟩ => ⟨S4x34x128x2x128, .f32⟩
  | .hbm, ⟨28, _⟩ => ⟨S4x32x128x2x128, .f32⟩
  | .hbm, ⟨29, _⟩ => ⟨S4x32x128x2x128, .f32⟩
  | .hbm, ⟨30, _⟩ => ⟨S4x32x128x2x128, .f32⟩
  | .hbm, ⟨31, _⟩ => ⟨S4x32x384x2x128, .f32⟩
  | .hbm, ⟨32, _⟩ => ⟨S32, .i32⟩
  | .hbm, ⟨33, _⟩ => ⟨S32x1x1, .i32⟩
  | .hbm, ⟨34, _⟩ => ⟨S_, .i32⟩
  | .hbm, ⟨35, _⟩ => ⟨S32x1x1, .i32⟩
  | .hbm, ⟨36, _⟩ => ⟨S32x1x1, .i32⟩
  | .hbm, ⟨37, _⟩ => ⟨S128, .i32⟩
  | .hbm, ⟨38, _⟩ => ⟨S1x128x1, .i32⟩
  | .hbm, ⟨39, _⟩ => ⟨S32x128x1, .i32⟩
  | .hbm, ⟨40, _⟩ => ⟨S32x128x1, .i32⟩
  | .hbm, ⟨41, _⟩ => ⟨S32x128x1, .i32⟩
  | .hbm, ⟨42, _⟩ => ⟨S_, .i32⟩
  | .hbm, ⟨43, _⟩ => ⟨S32x1x1, .i32⟩
  | .hbm, ⟨44, _⟩ => ⟨S32x1x1, .i32⟩
  | .hbm, ⟨45, _⟩ => ⟨S384, .i32⟩
  | .hbm, ⟨46, _⟩ => ⟨S1x1x384, .i32⟩
  | .hbm, ⟨47, _⟩ => ⟨S32x1x384, .i32⟩
  | .hbm, ⟨48, _⟩ => ⟨S32x1x384, .i32⟩
  | .hbm, ⟨49, _⟩ => ⟨S32x1x384, .i32⟩
  | .hbm, ⟨50, _⟩ => ⟨S32x128x384, .i32⟩
  | .hbm, ⟨51, _⟩ => ⟨S32x128x384, .i32⟩
  | .hbm, ⟨52, _⟩ => ⟨S32x128x384, .i32⟩
  | .hbm, ⟨53, _⟩ => ⟨S32x128x384, .i32⟩
  | .hbm, ⟨54, _⟩ => ⟨S_, .i32⟩
  | .hbm, ⟨55, _⟩ => ⟨S32x128x384, .i32⟩
  | .hbm, ⟨56, _⟩ => ⟨S32x128x384, .i1⟩
  | .hbm, ⟨57, _⟩ => ⟨S_, .i32⟩
  | .hbm, ⟨58, _⟩ => ⟨S32x1x384, .i32⟩
  | .hbm, ⟨59, _⟩ => ⟨S32x1x384, .i1⟩
  | .hbm, ⟨60, _⟩ => ⟨S32x128x384, .i1⟩
  | .hbm, ⟨61, _⟩ => ⟨S32x128x384, .i1⟩
  | .hbm, ⟨62, _⟩ => ⟨S_, .i32⟩
  | .hbm, ⟨63, _⟩ => ⟨S32x1x384, .i32⟩
  | .hbm, ⟨64, _⟩ => ⟨S32x1x384, .i1⟩
  | .hbm, ⟨65, _⟩ => ⟨S32x128x384, .i1⟩
  | .hbm, ⟨66, _⟩ => ⟨S32x128x384, .i1⟩
  | .hbm, ⟨67, _⟩ => ⟨S4x2x32x384x128x4, .f32⟩
  | .hbm, ⟨68, _⟩ => ⟨S4x2x4x32x128x384, .f32⟩
  | .hbm, ⟨69, _⟩ => ⟨S_, .f32⟩
  | .hbm, ⟨70, _⟩ => ⟨S4x2x4x32x128x384, .f32⟩
  | .hbm, ⟨71, _⟩ => ⟨S4x2x4x32x128x384, .f32⟩
  | .hbm, ⟨72, _⟩ => ⟨S_, .f32⟩
  | .hbm, ⟨73, _⟩ => ⟨S_, .f32⟩
  | .hbm, ⟨74, _⟩ => ⟨S4x2x4x32x128x384, .i1⟩
  | .hbm, ⟨75, _⟩ => ⟨S4x2x4x32x128x384, .f32⟩
  | .hbm, ⟨76, _⟩ => ⟨S4x2x4x32x128x384, .f32⟩
  | .hbm, ⟨77, _⟩ => ⟨S4x2x256x32x128x4, .f32⟩
  | .hbm, ⟨78, _⟩ => ⟨S4x2x4x32x128x256, .f32⟩
  | .hbm, ⟨79, _⟩ => ⟨S_, .f32⟩
  | .hbm, ⟨80, _⟩ => ⟨S4x2x4x32x128x256, .f32⟩
  | .hbm, ⟨81, _⟩ => ⟨S4x2x4x32x128x256, .f32⟩
  | .hbm, ⟨82, _⟩ => ⟨S1x2x4x1x1x1, .f32⟩
  | .hbm, ⟨83, _⟩ => ⟨S4x2x4x32x128x1, .f32⟩
  | .hbm, ⟨84, _⟩ => ⟨S4x2x4x32x128x641, .f32⟩
  | .hbm, ⟨85, _⟩ => ⟨S_, .f32⟩
  | .hbm, ⟨86, _⟩ => ⟨S4x2x4x32x128, .f32⟩
  | .hbm, ⟨87, _⟩ => ⟨S_, .f32⟩
  | .hbm, ⟨88, _⟩ => ⟨S4x2x4x32x128, .f32⟩
  | .hbm, ⟨89, _⟩ => ⟨S4x2x4x32x128, .f32⟩
  | .hbm, ⟨90, _⟩ => ⟨S4x2x4x32x128x1, .f32⟩
  | .hbm, ⟨91, _⟩ => ⟨S4x2x4x32x128x641, .f32⟩
  | .hbm, ⟨92, _⟩ => ⟨S4x2x4x32x128x641, .f32⟩
  | .hbm, ⟨93, _⟩ => ⟨S4x2x4x32x128x641, .f32⟩
  | .hbm, ⟨94, _⟩ => ⟨S_, .f32⟩
  | .hbm, ⟨95, _⟩ => ⟨S4x2x4x32x128, .f32⟩
  | .hbm, ⟨96, _⟩ => ⟨S4x2x4x32x128x1, .f32⟩
  | .hbm, ⟨97, _⟩ => ⟨S4x2x4x32x128x641, .f32⟩
  | .hbm, ⟨98, _⟩ => ⟨S4x2x4x32x128x641, .f32⟩
  | .hbm, ⟨99, _⟩ => ⟨S4x2x4x32x128x384, .f32⟩
  | .hbm, ⟨100, _⟩ => ⟨S4x32x2x128x4x128, .f32⟩
  | .hbm, ⟨101, _⟩ => ⟨S4x32x128x2x4x128, .f32⟩
  | .hbm, ⟨102, _⟩ => ⟨S4x2x4x32x128x256, .f32⟩
  | .hbm, ⟨103, _⟩ => ⟨S4x2x128x4x32x128, .f32⟩
  | .hbm, ⟨104, _⟩ => ⟨S4x32x128x2x4x128, .f32⟩
  | .hbm, ⟨105, _⟩ => ⟨S4x32x128x2x4x128, .f32⟩
  | .hbm, ⟨106, _⟩ => ⟨S16384x1024, .f32⟩
  | .hbm, ⟨107, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_call1_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_3 : Ref sig .tc := ⟨.hbm, 54, rfl⟩
abbrev main_v44 : Ref sig .tc := ⟨.hbm, 55, rfl⟩
abbrev main_v45 : Ref sig .tc := ⟨.hbm, 56, rfl⟩
abbrev main_c_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_8 : Ref sig .tc := ⟨.hbm, 85, rfl⟩
abbrev main_v66 : Ref sig .tc := ⟨.hbm, 86, rfl⟩
abbrev main_cst_9 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_10 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]
-- ==== Ffn.lean ====
abbrev S4x4096x2048 : Shape := ⟨3, ![4, 4096, 2048]⟩
abbrev S4x256x2048 : Shape := ⟨3, ![4, 256, 2048]⟩
abbrev S4x12288 : Shape := ⟨2, ![4, 12288]⟩
abbrev S12288 : Shape := ⟨1, ![12288]⟩
abbrev S2048 : Shape := ⟨1, ![2048]⟩
abbrev S2048x5632 : Shape := ⟨2, ![2048, 5632]⟩
abbrev S5632x2048 : Shape := ⟨2, ![5632, 2048]⟩
abbrev S16384x2048 : Shape := ⟨2, ![16384, 2048]⟩
abbrev S1024x2048 : Shape := ⟨2, ![1024, 2048]⟩
abbrev S17408x2048 : Shape := ⟨2, ![17408, 2048]⟩
abbrev S1x12288 : Shape := ⟨2, ![1, 12288]⟩
abbrev S_ : Shape := ⟨0, ![]⟩
abbrev S3x12288 : Shape := ⟨2, ![3, 12288]⟩
abbrev S8x12288 : Shape := ⟨2, ![8, 12288]⟩
abbrev S8x1x12288 : Shape := ⟨3, ![8, 1, 12288]⟩
abbrev S1x2048 : Shape := ⟨2, ![1, 2048]⟩
abbrev S1x1x2048 : Shape := ⟨3, ![1, 1, 2048]⟩
abbrev S1024 : Shape := ⟨1, ![1024]⟩
abbrev S1024x1 : Shape := ⟨2, ![1024, 1]⟩
abbrev S17408x5632 : Shape := ⟨2, ![17408, 5632]⟩
abbrev S2048x512 : Shape := ⟨2, ![2048, 512]⟩
abbrev S1024x512 : Shape := ⟨2, ![1024, 512]⟩
abbrev S512x5632 : Shape := ⟨2, ![512, 5632]⟩
abbrev S5632x1024 : Shape := ⟨2, ![5632, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 23
  | .vmem => 27
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S4x12288, .f32⟩
  | .hbm, ⟨3, _⟩ => ⟨S12288, .f32⟩
  | .hbm, ⟨4, _⟩ => ⟨S2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S16384x2048, .f32⟩
  | .hbm, ⟨9, _⟩ => ⟨S1024x2048, .f32⟩
  | .hbm, ⟨10, _⟩ => ⟨S17408x2048, .f32⟩
  | .hbm, ⟨11, _⟩ => ⟨S1x12288, .f32⟩
  | .hbm, ⟨12, _⟩ => ⟨S_, .f32⟩
  | .hbm, ⟨13, _⟩ => ⟨S3x12288, .f32⟩
  | .hbm, ⟨14, _⟩ => ⟨S8x12288, .f32⟩
  | .hbm, ⟨15, _⟩ => ⟨S8x1x12288, .f32⟩
  | .hbm, ⟨16, _⟩ => ⟨S1x2048, .f32⟩
  | .hbm, ⟨17, _⟩ => ⟨S17408x2048, .bf16⟩
  | .hbm, ⟨18, _⟩ => ⟨S2048x5632, .bf16⟩
  | .hbm, ⟨19, _⟩ => ⟨S2048x5632, .bf16⟩
  | .hbm, ⟨20, _⟩ => ⟨S17408x5632, .bf16⟩
  | .hbm, ⟨21, _⟩ => ⟨S5632x2048, .bf16⟩
  | .hbm, ⟨22, _⟩ => ⟨S17408x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S1024x512, .bf16⟩
  | .local _ .vmem, ⟨16, _⟩ => ⟨S1024x512, .bf16⟩
  | .local _ .vmem, ⟨17, _⟩ => ⟨S512x5632, .bf16⟩
  | .local _ .vmem, ⟨18, _⟩ => ⟨S512x5632, .bf16⟩
  | .local _ .vmem, ⟨19, _⟩ => ⟨S5632x1024, .bf16⟩
  | .local _ .vmem, ⟨20, _⟩ => ⟨S5632x1024, .bf16⟩
  | .local _ .vmem, ⟨21, _⟩ => ⟨S512x1024, .f32⟩
  | .local _ .vmem, ⟨22, _⟩ => ⟨S512x1024, .f32⟩
  | .local _ .vmem, ⟨23, _⟩ => ⟨S1x1x1024, .f32⟩
  | .local _ .vmem, ⟨24, _⟩ => ⟨S1x1x1024, .f32⟩
  | .local _ .vmem, ⟨25, _⟩ => ⟨S512x1024, .f32⟩
  | .local _ .vmem, ⟨26, _⟩ => ⟨S512x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .sge arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 c4_i32_4 v17
  let c0_i32_5 : BitVec 32 := 0#32
  let c3_i32 : BitVec 32 := 3#32
  let c0_i32_6 : BitVec 32 := 0#32
  ![v18.toNat, c0_i32_5.toNat, c3_i32.toNat]

def cc0_transform_3 (i : grid0.Coords) : Fin 3 → Nat :=
  let arg0 : BitVec 32 := BitVec.ofNat 32 (i 0).val
  let c16_i32 : BitVec 32 := 16#32
  let v0 : BitVec 1 := Scalar.cmpi .sge arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 c4_i32_4 v17
  let c0_i32_5 : BitVec 32 := 0#32
  let c4_i32_6 : BitVec 32 := 4#32
  let c0_i32_7 : BitVec 32 := 0#32
  ![v18.toNat, c0_i32_5.toNat, c4_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![11, 17], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 34], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .sge arg1 c32_i32
  let c8_i32 : BitVec 32 := 8#32
  let v1 : BitVec 32 := Scalar.divsi arg1 c8_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg1 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 c4_i32 v17
  let c10_i32 : BitVec 32 := 10#32
  let v19 : BitVec 32 := Scalar.addi c10_i32 arg0
  let c0_i32_4 : BitVec 32 := 0#32
  let c0_i32_5 : BitVec 32 := 0#32
  ![v18.toNat, c0_i32_4.toNat, v19.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S5632x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== FfnRefIdeal.lean ====
abbrev S4x4096x2048 : Shape := ⟨3, ![4, 4096, 2048]⟩
abbrev S4x256x2048 : Shape := ⟨3, ![4, 256, 2048]⟩
abbrev S4x12288 : Shape := ⟨2, ![4, 12288]⟩
abbrev S12288 : Shape := ⟨1, ![12288]⟩
abbrev S2048 : Shape := ⟨1, ![2048]⟩
abbrev S2048x5632 : Shape := ⟨2, ![2048, 5632]⟩
abbrev S5632x2048 : Shape := ⟨2, ![5632, 2048]⟩
abbrev S4x2048 : Shape := ⟨2, ![4, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x5632 : Shape := ⟨3, ![4, 4096, 5632]⟩
abbrev S16384x2048 : Shape := ⟨2, ![16384, 2048]⟩
abbrev S1x12288 : Shape := ⟨2, ![1, 12288]⟩
abbrev S1x2048 : Shape := ⟨2, ![1, 2048]⟩
abbrev S4x256 : Shape := ⟨2, ![4, 256]⟩
abbrev S4x256x1 : Shape := ⟨3, ![4, 256, 1]⟩
abbrev S4x256x5632 : Shape := ⟨3, ![4, 256, 5632]⟩
abbrev S1024x2048 : Shape := ⟨2, ![1024, 2048]⟩
abbrev S17408x2048 : Shape := ⟨2, ![17408, 2048]⟩

abbrev nBuf : Space → Nat
  | .hbm => 102
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S4x12288, .f32⟩
  | .hbm, ⟨3, _⟩ => ⟨S12288, .f32⟩
  | .hbm, ⟨4, _⟩ => ⟨S2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S4x2048, .f32⟩
  | .hbm, ⟨9, _⟩ => ⟨S4x1x2048, .f32⟩
  | .hbm, ⟨10, _⟩ => ⟨S4x2048, .f32⟩
  | .hbm, ⟨11, _⟩ => ⟨S4x1x2048, .f32⟩
  | .hbm, ⟨12, _⟩ => ⟨S4x2048, .f32⟩
  | .hbm, ⟨13, _⟩ => ⟨S4x1x2048, .f32⟩
  | .hbm, ⟨14, _⟩ => ⟨S4x4096x2048, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S_, .f32⟩
  | .hbm, ⟨41, _⟩ => ⟨S4x4096x5632, .f32⟩
  | .hbm, ⟨42, _⟩ => ⟨S4x4096x5632, .f32⟩
  | .hbm, ⟨43, _⟩ => ⟨S_, .f32⟩
  | .hbm, ⟨44, _⟩ => ⟨S4x4096x5632, .f32⟩
  | .hbm, ⟨45, _⟩ => ⟨S4x4096x5632, .f32⟩
  | .hbm, ⟨46, _⟩ => ⟨S4x4096x5632, .f32⟩
  | .hbm, ⟨47, _⟩ => ⟨S4x4096x5632, .f32⟩
  | .hbm, ⟨48, _⟩ => ⟨S4x4096x5632, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S16384x2048, .f32⟩
  | .hbm, ⟨54, _⟩ => ⟨S1x12288, .f32⟩
  | .hbm, ⟨55, _⟩ => ⟨S1x2048, .f32⟩
  | .hbm, ⟨56, _⟩ => ⟨S1x1x2048, .f32⟩
  | .hbm, ⟨57, _⟩ => ⟨S1x2048, .f32⟩
  | .hbm, ⟨58, _⟩ => ⟨S1x1x2048, .f32⟩
  | .hbm, ⟨59, _⟩ => ⟨S1x2048, .f32⟩
  | .hbm, ⟨60, _⟩ => ⟨S1x1x2048, .f32⟩
  | .hbm, ⟨61, _⟩ => ⟨S4x256x2048, .f32⟩
  | .hbm, ⟨62, _⟩ => ⟨S_, .f32⟩
  | .hbm, ⟨63, _⟩ => ⟨S4x256, .f32⟩
  | .hbm, ⟨64, _⟩ => ⟨S4x256x1, .f32⟩
  | .hbm, ⟨65, _⟩ => ⟨S_, .f32⟩
  | .hbm, ⟨66, _⟩ => ⟨S4x256x1, .f32⟩
  | .hbm, ⟨67, _⟩ => ⟨S4x256x1, .f32⟩
  | .hbm, ⟨68, _⟩ => ⟨S_, .f32⟩
  | .hbm, ⟨69, _⟩ => ⟨S4x256x1, .f32⟩
  | .hbm, ⟨70, _⟩ => ⟨S4x256x1, .f32⟩
  | .hbm, ⟨71, _⟩ => ⟨S4x256x1, .f32⟩
  | .hbm, ⟨72, _⟩ => ⟨S4x256x2048, .f32⟩
  | .hbm, ⟨73, _⟩ => ⟨S4x256x2048, .f32⟩
  | .hbm, ⟨74, _⟩ => ⟨S1x1x2048, .f32⟩
  | .hbm, ⟨75, _⟩ => ⟨S4x256x2048, .f32⟩
  | .hbm, ⟨76, _⟩ => ⟨S4x256x2048, .f32⟩
  | .hbm, ⟨77, _⟩ => ⟨S_, .f32⟩
  | .hbm, ⟨78, _⟩ => ⟨S1x1x2048, .f32⟩
  | .hbm, ⟨79, _⟩ => ⟨S1x1x2048, .f32⟩
  | .hbm, ⟨80, _⟩ => ⟨S4x256x2048, .f32⟩
  | .hbm, ⟨81, _⟩ => ⟨S4x256x2048, .f32⟩
  | .hbm, ⟨82, _⟩ => ⟨S4x256x2048, .f32⟩
  | .hbm, ⟨83, _⟩ => ⟨S4x256x2048, .f32⟩
  | .hbm, ⟨84, _⟩ => ⟨S4x256x5632, .f32⟩
  | .hbm, ⟨85, _⟩ => ⟨S4x256x5632, .f32⟩
  | .hbm, ⟨86, _⟩ => ⟨S4x256x5632, .f32⟩
  | .hbm, ⟨87, _⟩ => ⟨S_, .f32⟩
  | .hbm, ⟨88, _⟩ => ⟨S4x256x5632, .f32⟩
  | .hbm, ⟨89, _⟩ => ⟨S4x256x5632, .f32⟩
  | .hbm, ⟨90, _⟩ => ⟨S_, .f32⟩
  | .hbm, ⟨91, _⟩ => ⟨S4x256x5632, .f32⟩
  | .hbm, ⟨92, _⟩ => ⟨S4x256x5632, .f32⟩
  | .hbm, ⟨93, _⟩ => ⟨S4x256x5632, .f32⟩
  | .hbm, ⟨94, _⟩ => ⟨S4x256x5632, .f32⟩
  | .hbm, ⟨95, _⟩ => ⟨S4x256x5632, .f32⟩
  | .hbm, ⟨96, _⟩ => ⟨S4x256x2048, .f32⟩
  | .hbm, ⟨97, _⟩ => ⟨S4x256x2048, .f32⟩
  | .hbm, ⟨98, _⟩ => ⟨S4x256x2048, .f32⟩
  | .hbm, ⟨99, _⟩ => ⟨S4x256x2048, .f32⟩
  | .hbm, ⟨100, _⟩ => ⟨S1024x2048, .f32⟩
  | .hbm, ⟨101, _⟩ => ⟨S17408x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_3 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_cst_5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_6 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩

abbrev nD : Nat := 1
abbrev τ : Topo := Topo.v7x

variable {F : FTy → Type} [FloatOps F]
-- ==== InProj.lean ====
abbrev S4x4096x2048 : Shape := ⟨3, ![4, 4096, 2048]⟩
abbrev S4x256x2048 : Shape := ⟨3, ![4, 256, 2048]⟩
abbrev S4x12288 : Shape := ⟨2, ![4, 12288]⟩
abbrev S12288 : Shape := ⟨1, ![12288]⟩
abbrev S2048 : Shape := ⟨1, ![2048]⟩
abbrev S2048x13840 : Shape := ⟨2, ![2048, 13840]⟩
abbrev S16384x2048 : Shape := ⟨2, ![16384, 2048]⟩
abbrev S1024x2048 : Shape := ⟨2, ![1024, 2048]⟩
abbrev S17408x2048 : Shape := ⟨2, ![17408, 2048]⟩
abbrev S1x12288 : Shape := ⟨2, ![1, 12288]⟩
abbrev S_ : Shape := ⟨0, ![]⟩
abbrev S3x12288 : Shape := ⟨2, ![3, 12288]⟩
abbrev S8x12288 : Shape := ⟨2, ![8, 12288]⟩
abbrev S8x1x12288 : Shape := ⟨3, ![8, 1, 12288]⟩
abbrev S1x2048 : Shape := ⟨2, ![1, 2048]⟩
abbrev S1x1x2048 : Shape := ⟨3, ![1, 1, 2048]⟩
abbrev S1024 : Shape := ⟨1, ![1024]⟩
abbrev S1024x1 : Shape := ⟨2, ![1024, 1]⟩
abbrev S2x2x4 : Shape := ⟨3, ![2, 2, 4]⟩
abbrev S2048x3072 : Shape := ⟨2, ![2048, 3072]⟩
abbrev S2048x1024 : Shape := ⟨2, ![2048, 1024]⟩
abbrev S2048x256 : Shape := ⟨2, ![2048, 256]⟩
abbrev S2048x512 : Shape := ⟨2, ![2048, 512]⟩
abbrev S2048x16 : Shape := ⟨2, ![2048, 16]⟩
abbrev S2048x6144 : Shape := ⟨2, ![2048, 6144]⟩
abbrev S2048x120 : Shape := ⟨2, ![2048, 120]⟩
abbrev S2048x8 : Shape := ⟨2, ![2048, 8]⟩
abbrev S2048x128 : Shape := ⟨2, ![2048, 128]⟩
abbrev S2048x0 : Shape := ⟨2, ![2048, 0]⟩
abbrev S2048x14080 : Shape := ⟨2, ![2048, 14080]⟩
abbrev S2x1x8 : Shape := ⟨3, ![2, 1, 8]⟩
abbrev S2x1x128 : Shape := ⟨3, ![2, 1, 128]⟩
abbrev S17408x14080 : Shape := ⟨2, ![17408, 14080]⟩
abbrev S2048x1280 : Shape := ⟨2, ![2048, 1280]⟩
abbrev S1024x1280 : Shape := ⟨2, ![1024, 1280]⟩
abbrev S17408x3072 : Shape := ⟨2, ![17408, 3072]⟩
abbrev S17408x1024 : Shape := ⟨2, ![17408, 1024]⟩
abbrev S17408x6144 : Shape := ⟨2, ![17408, 6144]⟩
abbrev S17408x256 : Shape := ⟨2, ![17408, 256]⟩
abbrev S17408x512 : Shape := ⟨2, ![17408, 512]⟩
abbrev S17408x8 : Shape := ⟨2, ![17408, 8]⟩
abbrev S17408x120 : Shape := ⟨2, ![17408, 120]⟩
abbrev S17408x13840 : Shape := ⟨2, ![17408, 13840]⟩

abbrev nBuf : Space → Nat
  | .hbm => 57
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S4x12288, .f32⟩
  | .hbm, ⟨3, _⟩ => ⟨S12288, .f32⟩
  | .hbm, ⟨4, _⟩ => ⟨S2048, .f32⟩
  | .hbm, ⟨5, _⟩ => ⟨S2048x13840, .f32⟩
  | .hbm, ⟨6, _⟩ => ⟨S16384x2048, .f32⟩
  | .hbm, ⟨7, _⟩ => ⟨S1024x2048, .f32⟩
  | .hbm, ⟨8, _⟩ => ⟨S17408x2048, .f32⟩
  | .hbm, ⟨9, _⟩ => ⟨S1x12288, .f32⟩
  | .hbm, ⟨10, _⟩ => ⟨S_, .f32⟩
  | .hbm, ⟨11, _⟩ => ⟨S3x12288, .f32⟩
  | .hbm, ⟨12, _⟩ => ⟨S8x12288, .f32⟩
  | .hbm, ⟨13, _⟩ => ⟨S8x1x12288, .f32⟩
  | .hbm, ⟨14, _⟩ => ⟨S1x2048, .f32⟩
  | .hbm, ⟨15, _⟩ => ⟨S17408x2048, .bf16⟩
  | .hbm, ⟨16, _⟩ => ⟨S_, .f32⟩
  | .hbm, ⟨17, _⟩ => ⟨S2x2x4, .f32⟩
  | .hbm, ⟨18, _⟩ => ⟨S2048x3072, .f32⟩
  | .hbm, ⟨19, _⟩ => ⟨S2048x1024, .f32⟩
  | .hbm, ⟨20, _⟩ => ⟨S2048x256, .f32⟩
  | .hbm, ⟨21, _⟩ => ⟨S2048x256, .f32⟩
  | .hbm, ⟨22, _⟩ => ⟨S2048x512, .f32⟩
  | .hbm, ⟨23, _⟩ => ⟨S2048x512, .f32⟩
  | .hbm, ⟨24, _⟩ => ⟨S2048x1024, .f32⟩
  | .hbm, ⟨25, _⟩ => ⟨S2048x1024, .f32⟩
  | .hbm, ⟨26, _⟩ => ⟨S2048x16, .f32⟩
  | .hbm, ⟨27, _⟩ => ⟨S2048x6144, .f32⟩
  | .hbm, ⟨28, _⟩ => ⟨S_, .f32⟩
  | .hbm, ⟨29, _⟩ => ⟨S2048x120, .f32⟩
  | .hbm, ⟨30, _⟩ => ⟨S2048x8, .f32⟩
  | .hbm, ⟨31, _⟩ => ⟨S2048x128, .f32⟩
  | .hbm, ⟨32, _⟩ => ⟨S2048x8, .f32⟩
  | .hbm, ⟨33, _⟩ => ⟨S2048x128, .f32⟩
  | .hbm, ⟨34, _⟩ => ⟨S_, .f32⟩
  | .hbm, ⟨35, _⟩ => ⟨S2048x0, .f32⟩
  | .hbm, ⟨36, _⟩ => ⟨S2048x14080, .f32⟩
  | .hbm, ⟨37, _⟩ => ⟨S2048x14080, .bf16⟩
  | .hbm, ⟨38, _⟩ => ⟨S2x1x8, .f32⟩
  | .hbm, ⟨39, _⟩ => ⟨S_, .i32⟩
  | .hbm, ⟨40, _⟩ => ⟨S_, .f32⟩
  | .hbm, ⟨41, _⟩ => ⟨S2x1x128, .f32⟩
  | .hbm, ⟨42, _⟩ => ⟨S17408x14080, .f32⟩
  | .hbm, ⟨43, _⟩ => ⟨S17408x3072, .f32⟩
  | .hbm, ⟨44, _⟩ => ⟨S17408x1024, .f32⟩
  | .hbm, ⟨45, _⟩ => ⟨S17408x1024, .f32⟩
  | .hbm, ⟨46, _⟩ => ⟨S17408x1024, .f32⟩
  | .hbm, ⟨47, _⟩ => ⟨S17408x6144, .f32⟩
  | .hbm, ⟨48, _⟩ => ⟨S17408x256, .f32⟩
  | .hbm, ⟨49, _⟩ => ⟨S17408x256, .f32⟩
  | .hbm, ⟨50, _⟩ => ⟨S17408x512, .f32⟩
  | .hbm, ⟨51, _⟩ => ⟨S17408x512, .f32⟩
  | .hbm, ⟨52, _⟩ => ⟨S17408x8, .f32⟩
  | .hbm, ⟨53, _⟩ => ⟨S17408x120, .f32⟩
  | .hbm, ⟨54, _⟩ => ⟨S17408x8, .f32⟩
  | .hbm, ⟨55, _⟩ => ⟨S17408x120, .f32⟩
  | .hbm, ⟨56, _⟩ => ⟨S17408x13840, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S2048x1280, .bf16⟩
  | .local _ .vmem, ⟨12, _⟩ => ⟨S2048x1280, .bf16⟩
  | .local _ .vmem, ⟨13, _⟩ => ⟨S1024x1280, .f32⟩
  | .local _ .vmem, ⟨14, _⟩ => ⟨S1024x1280, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .sge arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 c4_i32_4 v17
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let c16_i32 : BitVec 32 := 16#32
  let v0 : BitVec 1 := Scalar.cmpi .sge arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 c4_i32_4 v17
  let c0_i32_5 : BitVec 32 := 0#32
  let c1_i32_6 : BitVec 32 := 1#32
  let c0_i32_7 : BitVec 32 := 0#32
  ![v18.toNat, c0_i32_5.toNat, c1_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![11, 17], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== InProjRefIdeal.lean ====
abbrev S4x4096x2048 : Shape := ⟨3, ![4, 4096, 2048]⟩
abbrev S4x256x2048 : Shape := ⟨3, ![4, 256, 2048]⟩
abbrev S4x12288 : Shape := ⟨2, ![4, 12288]⟩
abbrev S12288 : Shape := ⟨1, ![12288]⟩
abbrev S2048 : Shape := ⟨1, ![2048]⟩
abbrev S2048x13840 : Shape := ⟨2, ![2048, 13840]⟩
abbrev S4x2048 : Shape := ⟨2, ![4, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x13840 : Shape := ⟨3, ![4, 4096, 13840]⟩
abbrev S16384x13840 : Shape := ⟨2, ![16384, 13840]⟩
abbrev S1x12288 : Shape := ⟨2, ![1, 12288]⟩
abbrev S1x2048 : Shape := ⟨2, ![1, 2048]⟩
abbrev S4x256 : Shape := ⟨2, ![4, 256]⟩
abbrev S4x256x1 : Shape := ⟨3, ![4, 256, 1]⟩
abbrev S4x256x13840 : Shape := ⟨3, ![4, 256, 13840]⟩
abbrev S1024x13840 : Shape := ⟨2, ![1024, 13840]⟩
abbrev S17408x13840 : Shape := ⟨2, ![17408, 13840]⟩

abbrev nBuf : Space → Nat
  | .hbm => 66
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S4x12288, .f32⟩
  | .hbm, ⟨3, _⟩ => ⟨S12288, .f32⟩
  | .hbm, ⟨4, _⟩ => ⟨S2048, .f32⟩
  | .hbm, ⟨5, _⟩ => ⟨S2048x13840, .f32⟩
  | .hbm, ⟨6, _⟩ => ⟨S4x2048, .f32⟩
  | .hbm, ⟨7, _⟩ => ⟨S4x1x2048, .f32⟩
  | .hbm, ⟨8, _⟩ => ⟨S4x2048, .f32⟩
  | .hbm, ⟨9, _⟩ => ⟨S4x1x2048, .f32⟩
  | .hbm, ⟨10, _⟩ => ⟨S4x4096x2048, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x2048, .f32⟩
  | .hbm, ⟨22, _⟩ => ⟨S4x4096x2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x13840, .f32⟩
  | .hbm, ⟨34, _⟩ => ⟨S16384x13840, .f32⟩
  | .hbm, ⟨35, _⟩ => ⟨S1x12288, .f32⟩
  | .hbm, ⟨36, _⟩ => ⟨S1x2048, .f32⟩
  | .hbm, ⟨37, _⟩ => ⟨S1x1x2048, .f32⟩
  | .hbm, ⟨38, _⟩ => ⟨S1x2048, .f32⟩
  | .hbm, ⟨39, _⟩ => ⟨S1x1x2048, .f32⟩
  | .hbm, ⟨40, _⟩ => ⟨S4x256x2048, .f32⟩
  | .hbm, ⟨41, _⟩ => ⟨S_, .f32⟩
  | .hbm, ⟨42, _⟩ => ⟨S4x256, .f32⟩
  | .hbm, ⟨43, _⟩ => ⟨S4x256x1, .f32⟩
  | .hbm, ⟨44, _⟩ => ⟨S_, .f32⟩
  | .hbm, ⟨45, _⟩ => ⟨S4x256x1, .f32⟩
  | .hbm, ⟨46, _⟩ => ⟨S4x256x1, .f32⟩
  | .hbm, ⟨47, _⟩ => ⟨S_, .f32⟩
  | .hbm, ⟨48, _⟩ => ⟨S4x256x1, .f32⟩
  | .hbm, ⟨49, _⟩ => ⟨S4x256x1, .f32⟩
  | .hbm, ⟨50, _⟩ => ⟨S4x256x1, .f32⟩
  | .hbm, ⟨51, _⟩ => ⟨S4x256x2048, .f32⟩
  | .hbm, ⟨52, _⟩ => ⟨S4x256x2048, .f32⟩
  | .hbm, ⟨53, _⟩ => ⟨S1x1x2048, .f32⟩
  | .hbm, ⟨54, _⟩ => ⟨S4x256x2048, .f32⟩
  | .hbm, ⟨55, _⟩ => ⟨S4x256x2048, .f32⟩
  | .hbm, ⟨56, _⟩ => ⟨S_, .f32⟩
  | .hbm, ⟨57, _⟩ => ⟨S1x1x2048, .f32⟩
  | .hbm, ⟨58, _⟩ => ⟨S1x1x2048, .f32⟩
  | .hbm, ⟨59, _⟩ => ⟨S4x256x2048, .f32⟩
  | .hbm, ⟨60, _⟩ => ⟨S4x256x2048, .f32⟩
  | .hbm, ⟨61, _⟩ => ⟨S4x256x2048, .f32⟩
  | .hbm, ⟨62, _⟩ => ⟨S4x256x2048, .f32⟩
  | .hbm, ⟨63, _⟩ => ⟨S4x256x13840, .f32⟩
  | .hbm, ⟨64, _⟩ => ⟨S1024x13840, .f32⟩
  | .hbm, ⟨65, _⟩ => ⟨S17408x13840, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Merge.lean ====
abbrev S17408x1024 : Shape := ⟨2, ![17408, 1024]⟩
abbrev S3x1024x2048 : Shape := ⟨3, ![3, 1024, 2048]⟩
abbrev S17408x14080 : Shape := ⟨2, ![17408, 14080]⟩
abbrev S17408x2048 : Shape := ⟨2, ![17408, 2048]⟩
abbrev S512x1024 : Shape := ⟨2, ![512, 1024]⟩
abbrev S3x1024x1024 : Shape := ⟨3, ![3, 1024, 1024]⟩
abbrev S1x1024x1024 : Shape := ⟨3, ![1, 1024, 1024]⟩
abbrev S1024x1024 : Shape := ⟨2, ![1024, 1024]⟩

abbrev nBuf : Space → Nat
  | .hbm => 7
  | .vmem => 16
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .bf16⟩
  | .hbm, ⟨2, _⟩ => ⟨S17408x1024, .bf16⟩
  | .hbm, ⟨3, _⟩ => ⟨S3x1024x2048, .f32⟩
  | .hbm, ⟨4, _⟩ => ⟨S17408x14080, .f32⟩
  | .hbm, ⟨5, _⟩ => ⟨S3x1024x2048, .bf16⟩
  | .hbm, ⟨6, _⟩ => ⟨S17408x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S3x1024x1024, .bf16⟩
  | .local _ .vmem, ⟨7, _⟩ => ⟨S3x1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 34], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S17408x1024 : Shape := ⟨2, ![17408, 1024]⟩
abbrev S3x1024x2048 : Shape := ⟨3, ![3, 1024, 2048]⟩
abbrev S17408x14080 : Shape := ⟨2, ![17408, 14080]⟩
abbrev S17408x6144 : Shape := ⟨2, ![17408, 6144]⟩
abbrev S_ : Shape := ⟨0, ![]⟩
abbrev S17408x2048 : Shape := ⟨2, ![17408, 2048]⟩
abbrev S1x1024x2048 : Shape := ⟨3, ![1, 1024, 2048]⟩
abbrev S1024x2048 : Shape := ⟨2, ![1024, 2048]⟩

abbrev nBuf : Space → Nat
  | .hbm => 35
  | .vmem => 0
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .bf16⟩
  | .hbm, ⟨2, _⟩ => ⟨S17408x1024, .bf16⟩
  | .hbm, ⟨3, _⟩ => ⟨S3x1024x2048, .f32⟩
  | .hbm, ⟨4, _⟩ => ⟨S17408x14080, .f32⟩
  | .hbm, ⟨5, _⟩ => ⟨S17408x6144, .f32⟩
  | .hbm, ⟨6, _⟩ => ⟨S17408x6144, .f32⟩
  | .hbm, ⟨7, _⟩ => ⟨S17408x6144, .f32⟩
  | .hbm, ⟨8, _⟩ => ⟨S_, .f32⟩
  | .hbm, ⟨9, _⟩ => ⟨S17408x6144, .f32⟩
  | .hbm, ⟨10, _⟩ => ⟨S17408x6144, .f32⟩
  | .hbm, ⟨11, _⟩ => ⟨S_, .f32⟩
  | .hbm, ⟨12, _⟩ => ⟨S17408x6144, .f32⟩
  | .hbm, ⟨13, _⟩ => ⟨S17408x6144, .f32⟩
  | .hbm, ⟨14, _⟩ => ⟨S17408x2048, .f32⟩
  | .hbm, ⟨15, _⟩ => ⟨S17408x2048, .f32⟩
  | .hbm, ⟨16, _⟩ => ⟨S17408x2048, .f32⟩
  | .hbm, ⟨17, _⟩ => ⟨S17408x1024, .f32⟩
  | .hbm, ⟨18, _⟩ => ⟨S17408x1024, .f32⟩
  | .hbm, ⟨19, _⟩ => ⟨S17408x1024, .f32⟩
  | .hbm, ⟨20, _⟩ => ⟨S1x1024x2048, .f32⟩
  | .hbm, ⟨21, _⟩ => ⟨S1024x2048, .f32⟩
  | .hbm, ⟨22, _⟩ => ⟨S17408x2048, .f32⟩
  | .hbm, ⟨23, _⟩ => ⟨S17408x2048, .f32⟩
  | .hbm, ⟨24, _⟩ => ⟨S1x1024x2048, .f32⟩
  | .hbm, ⟨25, _⟩ => ⟨S1024x2048, .f32⟩
  | .hbm, ⟨26, _⟩ => ⟨S17408x2048, .f32⟩
  | .hbm, ⟨27, _⟩ => ⟨S17408x2048, .f32⟩
  | .hbm, ⟨28, _⟩ => ⟨S17408x2048, .f32⟩
  | .hbm, ⟨29, _⟩ => ⟨S1x1024x2048, .f32⟩
  | .hbm, ⟨30, _⟩ => ⟨S1024x2048, .f32⟩
  | .hbm, ⟨31, _⟩ => ⟨S17408x2048, .f32⟩
  | .hbm, ⟨32, _⟩ => ⟨S17408x2048, .f32⟩
  | .hbm, ⟨33, _⟩ => ⟨S17408x2048, .f32⟩
  | .hbm, ⟨34, _⟩ => ⟨S17408x2048, .bf16⟩
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== OutProj.lean ====
abbrev S17408x2048 : Shape := ⟨2, ![17408, 2048]⟩
abbrev S2048x2048 : Shape := ⟨2, ![2048, 2048]⟩
abbrev S4x4096x2048 : Shape := ⟨3, ![4, 4096, 2048]⟩
abbrev S4x256x2048 : Shape := ⟨3, ![4, 256, 2048]⟩
abbrev S4x12288 : Shape := ⟨2, ![4, 12288]⟩
abbrev S12288 : Shape := ⟨1, ![12288]⟩
abbrev S16384x2048 : Shape := ⟨2, ![16384, 2048]⟩
abbrev S1024x2048 : Shape := ⟨2, ![1024, 2048]⟩
abbrev S1x12288 : Shape := ⟨2, ![1, 12288]⟩
abbrev S_ : Shape := ⟨0, ![]⟩
abbrev S3x12288 : Shape := ⟨2, ![3, 12288]⟩
abbrev S8x12288 : Shape := ⟨2, ![8, 12288]⟩
abbrev S8x1x12288 : Shape := ⟨3, ![8, 1, 12288]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 16
  | .vmem => 10
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S4x4096x2048, .f32⟩
  | .hbm, ⟨3, _⟩ => ⟨S4x256x2048, .f32⟩
  | .hbm, ⟨4, _⟩ => ⟨S4x12288, .f32⟩
  | .hbm, ⟨5, _⟩ => ⟨S12288, .f32⟩
  | .hbm, ⟨6, _⟩ => ⟨S16384x2048, .f32⟩
  | .hbm, ⟨7, _⟩ => ⟨S1024x2048, .f32⟩
  | .hbm, ⟨8, _⟩ => ⟨S17408x2048, .f32⟩
  | .hbm, ⟨9, _⟩ => ⟨S1x12288, .f32⟩
  | .hbm, ⟨10, _⟩ => ⟨S_, .f32⟩
  | .hbm, ⟨11, _⟩ => ⟨S3x12288, .f32⟩
  | .hbm, ⟨12, _⟩ => ⟨S8x12288, .f32⟩
  | .hbm, ⟨13, _⟩ => ⟨S8x1x12288, .f32⟩
  | .hbm, ⟨14, _⟩ => ⟨S2048x2048, .bf16⟩
  | .hbm, ⟨15, _⟩ => ⟨S17408x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg1 c16_i32
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 c4_i32_4 v17
  let c4_i32_5 : BitVec 32 := 4#32
  let v19 : BitVec 32 := Scalar.addi c4_i32_5 arg0
  let c0_i32_6 : BitVec 32 := 0#32
  let c0_i32_7 : BitVec 32 := 0#32
  ![v18.toNat, c0_i32_6.toNat, v19.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S17408x2048 : Shape := ⟨2, ![17408, 2048]⟩
abbrev S2048x2048 : Shape := ⟨2, ![2048, 2048]⟩
abbrev S4x4096x2048 : Shape := ⟨3, ![4, 4096, 2048]⟩
abbrev S4x256x2048 : Shape := ⟨3, ![4, 256, 2048]⟩
abbrev S4x12288 : Shape := ⟨2, ![4, 12288]⟩
abbrev S12288 : Shape := ⟨1, ![12288]⟩
abbrev S16384x2048 : Shape := ⟨2, ![16384, 2048]⟩
abbrev S4x2048 : Shape := ⟨2, ![4, 2048]⟩
abbrev S4x1x2048 : Shape := ⟨3, ![4, 1, 2048]⟩
abbrev S1x12288 : Shape := ⟨2, ![1, 12288]⟩
abbrev S1024x2048 : Shape := ⟨2, ![1024, 2048]⟩
abbrev S1x2048 : Shape := ⟨2, ![1, 2048]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S4x4096x2048, .f32⟩
  | .hbm, ⟨3, _⟩ => ⟨S4x256x2048, .f32⟩
  | .hbm, ⟨4, _⟩ => ⟨S4x12288, .f32⟩
  | .hbm, ⟨5, _⟩ => ⟨S12288, .f32⟩
  | .hbm, ⟨6, _⟩ => ⟨S17408x2048, .f32⟩
  | .hbm, ⟨7, _⟩ => ⟨S16384x2048, .f32⟩
  | .hbm, ⟨8, _⟩ => ⟨S4x2048, .f32⟩
  | .hbm, ⟨9, _⟩ => ⟨S4x1x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S16384x2048, .f32⟩
  | .hbm, ⟨16, _⟩ => ⟨S1x12288, .f32⟩
  | .hbm, ⟨17, _⟩ => ⟨S1024x2048, .f32⟩
  | .hbm, ⟨18, _⟩ => ⟨S1x2048, .f32⟩
  | .hbm, ⟨19, _⟩ => ⟨S1x1x2048, .f32⟩
  | .hbm, ⟨20, _⟩ => ⟨S4x256x2048, .f32⟩
  | .hbm, ⟨21, _⟩ => ⟨S4x256x2048, .f32⟩
  | .hbm, ⟨22, _⟩ => ⟨S4x256x2048, .f32⟩
  | .hbm, ⟨23, _⟩ => ⟨S4x256x2048, .f32⟩
  | .hbm, ⟨24, _⟩ => ⟨S4x256x2048, .f32⟩
  | .hbm, ⟨25, _⟩ => ⟨S1024x2048, .f32⟩
  | .hbm, ⟨26, _⟩ => ⟨S17408x2048, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== MoeDown.lean ====
abbrev S36864x7168 : Shape := ⟨2, ![36864, 7168]⟩
abbrev S8x7168x2048 : Shape := ⟨3, ![8, 7168, 2048]⟩
abbrev S72 : Shape := ⟨1, ![72]⟩
abbrev S1 : Shape := ⟨1, ![1]⟩
abbrev S36864x2048 : Shape := ⟨2, ![36864, 2048]⟩
abbrev S512x7168 : Shape := ⟨2, ![512, 7168]⟩
abbrev S1x7168x1024 : Shape := ⟨3, ![1, 7168, 1024]⟩
abbrev S512x1024 : Shape := ⟨2, ![512, 1024]⟩
abbrev S7168x1024 : Shape := ⟨2, ![7168, 1024]⟩

abbrev nBuf : Space → Nat
  | .hbm => 4
  | .vmem => 6
  | .smem => 2
  | _ => 0

abbrev bufTy : (tb : Table) → Fin (tcTables nBuf tb) → BufTy
  | .hbm, ⟨0, _⟩ => ⟨S36864x7168, .bf16⟩
  | .hbm, ⟨1, _⟩ => ⟨S8x7168x2048, .f32⟩
  | .hbm, ⟨2, _⟩ => ⟨S8x7168x2048, .bf16⟩
  | .hbm, ⟨3, _⟩ => ⟨S36864x2048, .f32⟩
  | .local _ .vmem, ⟨0, _⟩ => ⟨S512x7168, .bf16⟩
  | .local _ .vmem, ⟨1, _⟩ => ⟨S512x7168, .bf16⟩
  | .local _ .vmem, ⟨2, _⟩ => ⟨S1x7168x1024, .bf16⟩
  | .local _ .vmem, ⟨3, _⟩ => ⟨S1x7168x1024, .bf16⟩
  | .local _ .vmem, ⟨4, _⟩ => ⟨S512x1024, .f32⟩
  | .local _ .vmem, ⟨5, _⟩ => ⟨S512x1024, .f32⟩
  | .local _ .smem, ⟨0, _⟩ => ⟨S72, .i32⟩
  | .local _ .smem, ⟨1, _⟩ => ⟨S1, .i32⟩
  | _, _ => ⟨S36864x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 72], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MoeDownRefIdeal.lean ====
abbrev S36864x7168 : Shape := ⟨2, ![36864, 7168]⟩
abbrev S8x7168x2048 : Shape := ⟨3, ![8, 7168, 2048]⟩
abbrev S72 : Shape := ⟨1, ![72]⟩
abbrev S1 : Shape := ⟨1, ![1]⟩
abbrev S72x512x7168 : Shape := ⟨3, ![72, 512, 7168]⟩
abbrev S_ : Shape := ⟨0, ![]⟩
abbrev S72x1 : Shape := ⟨2, ![72, 1]⟩
abbrev S72x7168x2048 : Shape := ⟨3, ![72, 7168, 2048]⟩
abbrev S72x512x2048 : Shape := ⟨3, ![72, 512, 2048]⟩
abbrev S72x1x1 : Shape := ⟨3, ![72, 1, 1]⟩
abbrev S36864x2048 : Shape := ⟨2, ![36864, 2048]⟩

abbrev nBuf : Space → Nat
  | .hbm => 27
  | .vmem => 0
  | .smem => 0
  | _ => 0

abbrev bufTy : (tb : Table) → Fin (tcTables nBuf tb) → BufTy
  | .hbm, ⟨0, _⟩ => ⟨S36864x7168, .bf16⟩
  | .hbm, ⟨1, _⟩ => ⟨S8x7168x2048, .f32⟩
  | .hbm, ⟨2, _⟩ => ⟨S72, .i32⟩
  | .hbm, ⟨3, _⟩ => ⟨S1, .i32⟩
  | .hbm, ⟨4, _⟩ => ⟨S36864x7168, .f32⟩
  | .hbm, ⟨5, _⟩ => ⟨S72x512x7168, .f32⟩
  | .hbm, ⟨6, _⟩ => ⟨S_, .i32⟩
  | .hbm, ⟨7, _⟩ => ⟨S72, .i32⟩
  | .hbm, ⟨8, _⟩ => ⟨S72, .i1⟩
  | .hbm, ⟨9, _⟩ => ⟨S_, .i32⟩
  | .hbm, ⟨10, _⟩ => ⟨S72, .i32⟩
  | .hbm, ⟨11, _⟩ => ⟨S72, .i32⟩
  | .hbm, ⟨12, _⟩ => ⟨S72, .i32⟩
  | .hbm, ⟨13, _⟩ => ⟨S72x1, .i32⟩
  | .hbm, ⟨14, _⟩ => ⟨S72x7168x2048, .f32⟩
  | .hbm, ⟨15, _⟩ => ⟨S72x512x2048, .f32⟩
  | .hbm, ⟨16, _⟩ => ⟨S72, .i32⟩
  | .hbm, ⟨17, _⟩ => ⟨S_, .i32⟩
  | .hbm, ⟨18, _⟩ => ⟨S72, .i32⟩
  | .hbm, ⟨19, _⟩ => ⟨S72, .i1⟩
  | .hbm, ⟨20, _⟩ => ⟨S72x1x1, .i1⟩
  | .hbm, ⟨21, _⟩ => ⟨S_, .f32⟩
  | .hbm, ⟨22, _⟩ => ⟨S_, .f32⟩
  | .hbm, ⟨23, _⟩ => ⟨S72x512x2048, .i1⟩
  | .hbm, ⟨24, _⟩ => ⟨S72x512x2048, .f32⟩
  | .hbm, ⟨25, _⟩ => ⟨S72x512x2048, .f32⟩
  | .hbm, ⟨26, _⟩ => ⟨S36864x2048, .f32⟩
  | _, _ => ⟨S36864x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.FfnBlocks.lean ====
/- The three regions of the dense channel mixer, each array it leaves read as one function of the arrays it finds. -/
module

public import proofs.«01_k».proof.Proof.Gen.FfnIdeal.Frame
public import Idealize.ShloMosaic.Lib.Pipeline.ValueKit
public import Idealize.ShloMosaic.Lib.Pointwise

@[expose] public section

set_option maxRecDepth 16384

noncomputable section

namespace Cert.FfnIdeal.Blocks

open Cert.FfnIdeal Cert.FfnIdeal.Gen Idealize.ShloMosaic Idealize.ShloMosaic.TcCoe Idealize.SL.Sem
open Idealize.ShloMosaic.Pipeline (Dat)

/-- The row of the modulation table a token reads: its sample's, or the fifth for a context token. -/
def mr (r : Fin 17408) : Fin 8 := ⟨if r.val < 16384 then r.val / 4096 else 4, by split <;> omega⟩

/-- The modulated RMSNorm of every token. -/
def normed (X : FVec Ideal S17408x2048 .f32) (T : FVec Ideal S8x1x12288 .f32) (g : FVec Ideal S1x2048 .f32) :
    FVec Ideal S17408x2048 .bf16 := fun i =>
  X (ix2 (i 0) (i 1)) * Ideal.rsqrt (Ideal.div (∑ k : Fin 2048, X (ix2 (i 0) k) * X (ix2 (i 0) k))
      (Ideal.ofBits .f32 0x45000000#32) + Ideal.ofBits .f32 0x358637BD#32) * g (ix2 0 (i 1))
    * (1 + T (ix3 (mr (i 0)) 0 ⟨8192 + (i 1).val, by have h : (i 1).val < 2048 := (i 1).isLt; omega⟩))
    + T (ix3 (mr (i 0)) 0 ⟨6144 + (i 1).val, by have h : (i 1).val < 2048 := (i 1).isLt; omega⟩)

/-- The gated hidden layer of every token. -/
def hidden (f : FVec Ideal S17408x2048 .bf16) (wg wu : FVec Ideal S2048x5632 .bf16) :
    FVec Ideal S17408x5632 .bf16 := fun i =>
  (∑ k : Fin 2048, f (ix2 (i 0) k) * wg (ix2 k (i 1)))
    * Ideal.logistic (∑ k : Fin 2048, f (ix2 (i 0) k) * wg (ix2 k (i 1)))
    * (∑ k : Fin 2048, f (ix2 (i 0) k) * wu (ix2 k (i 1)))

/-- The gated residual of every token. -/
def resid (h : FVec Ideal S17408x5632 .bf16) (wd : FVec Ideal S5632x2048 .bf16) (X : FVec Ideal S17408x2048 .f32)
    (T : FVec Ideal S8x1x12288 .f32) : FVec Ideal S17408x2048 .f32 := fun i =>
  X (ix2 (i 0) (i 1))
    + T (ix3 (mr (i 0)) 0 ⟨10240 + (i 1).val, by have h : (i 1).val < 2048 := (i 1).isLt; omega⟩)
      * ∑ k : Fin 5632, h (ix2 (i 0) k) * wd (ix2 k (i 1))

variable (V : (c : Dev nD) → (b : Ref sig .tc) → Buf (Elt Ideal) ((c : Thread nD τ).loc b))

/-- The block indices of the first region's windows. -/
theorem idx0 : ∀ t : Fin cfg0.N, win0_0.index t = ![t.val, 0] ∧ win0_1.index t = ![0, 0]
    ∧ win0_2.index t = ![if t.val < 16 then t.val / 4 else 4, 0, 3]
    ∧ win0_3.index t = ![if t.val < 16 then t.val / 4 else 4, 0, 4] ∧ win0_4.index t = ![t.val, 0] :=
  (by decide +kernel : ∀ t : Fin grid0.N, _)

/-- What the first region's body stores is the modulated RMSNorm at the place it is stored. -/
theorem point0 (c : Dev nD) (t : Fin cfg0.N) (y) :
    k0_pay1 (iblk0 V c 0 t) (iblk0 V c 1 t) (iblk0 V c 3 t) (iblk0 V c 2 t) y
      = normed (V c main_v2) (V c main_v6) (V c main_v7) (((cfg0.win 4).blk t).view.emb y) := by
  pointwise [k0_pay1, normed]
  blk_point [iblk0, idx0 t, mr]
  all_goals (split_ifs <;> omega)

/-- The array the first region leaves. -/
theorem final0 (c : Dev nD) : (dat0 V c).arrAt 4 cfg0.N = normed (V c main_v2) (V c main_v6) (V c main_v7) := by
  refine (dat0 V c).arrAt_eq_of_covers 4 _ (by decide +kernel) fun t _ y => ?_
  blk_simp
  rw [after0_4]; frame_out
  exact point0 V c t y

/-- The block indices of the second region's windows. -/
theorem idx1 : ∀ t : Fin cfg1.N, win1_0.index t = ![t.val % 17, 0] ∧ win1_1.index t = ![0, t.val / 17]
    ∧ win1_2.index t = ![0, t.val / 17] ∧ win1_3.index t = ![t.val % 17, t.val / 17] :=
  (by decide +kernel : ∀ t : Fin grid1.N, _)

/-- What the second region's body stores is the hidden layer at the place it is stored. -/
theorem point1 (c : Dev nD) (t : Fin cfg1.N) (y) :
    k1_pay1 (iblk1 V c 0 t) (iblk1 V c 1 t) (iblk1 V c 2 t) y
      = hidden (V c main_v8) (V c main_v9) (V c main_v10) (((cfg1.win 3).blk t).view.emb y) := by
  pointwise [k1_pay1, hidden]
  blk_point [iblk1, idx1 t]

/-- The array the second region leaves. -/
theorem final1 (c : Dev nD) : (dat1 V c).arrAt 3 cfg1.N = hidden (V c main_v8) (V c main_v9) (V c main_v10) := by
  refine (dat1 V c).arrAt_eq_of_covers 3 _ (by decide +kernel) fun t _ y => ?_
  blk_simp
  rw [after1_3]; frame_out
  exact point1 V c t y

/-- The block indices of the third region's windows. -/
theorem idx2 : ∀ t : Fin cfg2.N, win2_0.index t = ![t.val % 34, 0] ∧ win2_1.index t = ![0, t.val / 34]
    ∧ win2_2.index t = ![t.val % 34, t.val / 34]
    ∧ win2_3.index t = ![if t.val % 34 < 32 then t.val % 34 / 8 else 4, 0, 10 + t.val / 34]
    ∧ win2_4.index t = ![t.val % 34, t.val / 34] :=
  (by decide +kernel : ∀ t : Fin grid2.N, _)

/-- What the third region's body stores is the gated residual at the place it is stored. -/
theorem point2 (c : Dev nD) (t : Fin cfg2.N) (y) :
    k2_pay1 (iblk2 V c 0 t) (iblk2 V c 1 t) (iblk2 V c 2 t) (iblk2 V c 3 t) y
      = resid (V c main_v11) (V c main_v12) (V c main_v2) (V c main_v6) (((cfg2.win 4).blk t).view.emb y) := by
  pointwise [k2_pay1, resid]
  blk_point [iblk2, idx2 t, mr]
  all_goals (split_ifs <;> omega)

/-- The array the third region leaves. -/
theorem final2 (c : Dev nD) : (dat2 V c).arrAt 4 cfg2.N
    = resid (V c main_v11) (V c main_v12) (V c main_v2) (V c main_v6) := by
  refine (dat2 V c).arrAt_eq_of_covers 4 _ (by decide +kernel) fun t _ y => ?_
  blk_simp
  rw [after2_4]; frame_out
  exact point2 V c t y

end Cert.FfnIdeal.Blocks

end
-- ==== Proof.FfnRun.lean ====
/- The run of the dense channel mixer: what its result array holds when the program ends. -/
module

public import proofs.«01_k».proof.Proof.FfnBlocks

@[expose] public section

set_option maxRecDepth 16384

noncomputable section

namespace Cert.FfnIdeal.Blocks

open Cert.FfnIdeal Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The tokens of the two streams in one array, as the host lays them out. -/
abbrev toks (x0 : FVec Ideal S4x4096x2048 .f32) (x1 : FVec Ideal S4x256x2048 .f32) : FVec Ideal S17408x2048 .f32 :=
  concatenate S17408x2048 0 [⟨S16384x2048, shapeCast S16384x2048 x0 shapeCasts_S4x4096x2048_S16384x2048⟩,
    ⟨S1024x2048, shapeCast S1024x2048 x1 shapeCasts_S4x256x2048_S1024x2048⟩] concatenates_S16384x2048_S1024x2048_S17408x2048_d0

/-- The modulation rows of the four samples, of the context, and three of zeros. -/
abbrev table (x2 : FVec Ideal S4x12288 .f32) (x3 : FVec Ideal S12288 .f32) : FVec Ideal S8x1x12288 .f32 :=
  shapeCast S8x1x12288 (concatenate S8x12288 0 [⟨S4x12288, x2⟩, ⟨S1x12288, broadcastInDim S1x12288 ![1] bcast_S12288_S1x12288_1 x3⟩,
    ⟨S3x12288, broadcastInDim S3x12288 ![] bcast_S_S3x12288 (constant S_ .f32 0#32)⟩]
    concatenates_S4x12288_S1x12288_S3x12288_S8x12288_d0) shapeCasts_S8x12288_S8x1x12288

/-- The tokens the first region finds. -/
theorem V1_v2 (c : Dev nD) : V1 m ρ c main_v2 = toks (m ((c : Thread nD τ).loc main_arg0)) (m ((c : Thread nD τ).loc main_arg1)) := by
  unfold V1 W1
  after_results_simp
  rfl

/-- The norm's gain the first region finds. -/
theorem V1_v7 (c : Dev nD) : V1 m ρ c main_v7 = shapeCast S1x2048 (m ((c : Thread nD τ).loc main_arg4)) shapeCasts_S2048_S1x2048 := by
  unfold V1 W1
  after_results_simp
  rfl

/-- The modulation table the first region finds. -/
theorem V1_v6 (c : Dev nD) : V1 m ρ c main_v6 = table (m ((c : Thread nD τ).loc main_arg2)) (m ((c : Thread nD τ).loc main_arg3)) := by
  unfold V1 W1
  after_results_simp
  rfl

/-- The gate weights the second region finds. -/
theorem V3_v9 (c : Dev nD) : V3 m ρ c main_v9 = m ((c : Thread nD τ).loc main_arg5) := by
  unfold V3 W3
  after_results_simp
  exact W2_args m ρ c main_arg5 (by decide)

/-- The up weights the second region finds. -/
theorem V3_v10 (c : Dev nD) : V3 m ρ c main_v10 = m ((c : Thread nD τ).loc main_arg6) := by
  unfold V3 W3
  after_results_simp
  exact W2_args m ρ c main_arg6 (by decide)

/-- The down weights the third region finds. -/
theorem V5_v12 (c : Dev nD) : V5 m ρ c main_v12 = m ((c : Thread nD τ).loc main_arg7) := by
  unfold V5 W5
  after_results_simp
  exact W4_args m ρ c main_arg7 (by decide)

/-- The normed tokens the second region finds. -/
theorem V3_v8 (c : Dev nD) : V3 m ρ c main_v8 = normed (V1 m ρ c main_v2) (V1 m ρ c main_v6) (V1 m ρ c main_v7) :=
  (W3_of m ρ c main_v8 (by decide)).trans ((W2_arr m ρ c 4).trans (final0 (V1 m ρ) c))

/-- The hidden layer the third region finds. -/
theorem V5_v11 (c : Dev nD) : V5 m ρ c main_v11 = hidden (V3 m ρ c main_v8) (V3 m ρ c main_v9) (V3 m ρ c main_v10) :=
  (W5_of m ρ c main_v11 (by decide)).trans ((W4_arr m ρ c 3).trans (final1 (V3 m ρ) c))

/-- The tokens are still there when the third region starts. -/
theorem V5_v2 (c : Dev nD) : V5 m ρ c main_v2 = V1 m ρ c main_v2 :=
  (W5_of m ρ c main_v2 (by decide)).trans ((W4_of m ρ c main_v2 (by decide +kernel)).trans
    ((W3_of m ρ c main_v2 (by decide)).trans (W2_of m ρ c main_v2 (by decide +kernel))))

/-- The modulation table is still there when the third region starts. -/
theorem V5_v6 (c : Dev nD) : V5 m ρ c main_v6 = V1 m ρ c main_v6 :=
  (W5_of m ρ c main_v6 (by decide)).trans ((W4_of m ρ c main_v6 (by decide +kernel)).trans
    ((W3_of m ρ c main_v6 (by decide)).trans (W2_of m ρ c main_v6 (by decide +kernel))))

/-- What the result array holds, from the arguments. -/
theorem W6_v13 (c : Dev nD) : W6 m ρ c (Proc.devRef .tc main_v13)
    = resid (hidden (normed (toks (m ((c : Thread nD τ).loc main_arg0)) (m ((c : Thread nD τ).loc main_arg1)))
          (table (m ((c : Thread nD τ).loc main_arg2)) (m ((c : Thread nD τ).loc main_arg3)))
          (shapeCast S1x2048 (m ((c : Thread nD τ).loc main_arg4)) shapeCasts_S2048_S1x2048))
        (m ((c : Thread nD τ).loc main_arg5)) (m ((c : Thread nD τ).loc main_arg6)))
      (m ((c : Thread nD τ).loc main_arg7))
      (toks (m ((c : Thread nD τ).loc main_arg0)) (m ((c : Thread nD τ).loc main_arg1)))
      (table (m ((c : Thread nD τ).loc main_arg2)) (m ((c : Thread nD τ).loc main_arg3))) :=
  (W6_arr m ρ c 4).trans ((final2 (V5 m ρ) c).trans (by
    rw [V5_v11, V5_v12, V5_v2, V5_v6, V3_v8, V3_v9, V3_v10, V1_v2, V1_v6, V1_v7]))

set_option backward.isDefEq.respectTransparency.types false in
/-- Every execution ends with every buffer of the program holding what the last region leaves in it, and no counter up. -/
theorem run_all : θ_run defs (onTc (τ := τ) (main (F := Ideal))) ⟨m, fun _ => 0, ρ⟩ (fun r =>
      (∀ c : Dev nD, ∀ b ∈ Pipeline.ucRefs τ sig, r.2.mem (((c : Thread nD τ)).1, b) = W6 m ρ c b)
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Cert.FfnIdeal.Blocks

end
-- ==== Proof.FfnRef.lean ====
/- What the reference of the dense channel mixer says, row by row, and that the three regions leave the same. -/
module

public import proofs.«01_k».proof.Proof.FfnRun
public import proofs.«01_k».proof.Proof.Gen.FfnRefIdeal.Run
public import proofs.«01_k».proof.Proof.Gen.FfnRefIdeal.Read
public import Idealize.ShloMosaic.Lib.Pointwise

@[expose] public section

set_option maxRecDepth 16384

noncomputable section

namespace Cert.FfnRow

open Idealize.ShloMosaic Idealize.ShloMosaic.TcCoe Idealize.SL.Sem

/-- One token's modulated RMSNorm, from its row, its modulation row and the gain. -/
def nrm (x : Fin 2048 → EReal) (t : Fin 12288 → EReal) (g : Fin 2048 → EReal) (k : Fin 2048) : EReal :=
  x k * Ideal.rsqrt (Ideal.div (∑ k, x k * x k) (Ideal.ofBits .f32 0x45000000#32) + Ideal.ofBits .f32 0x358637BD#32) * g k
    * (1 + t ⟨8192 + k.val, by omega⟩) + t ⟨6144 + k.val, by omega⟩

/-- One token's hidden layer. -/
def hid (f : Fin 2048 → EReal) (wg wu : Fin 2048 → Fin 5632 → EReal) (j : Fin 5632) : EReal :=
  (∑ k, f k * wg k j) * Ideal.logistic (∑ k, f k * wg k j) * ∑ k, f k * wu k j

/-- One token's result. -/
def out (x : Fin 2048 → EReal) (t : Fin 12288 → EReal) (g : Fin 2048 → EReal) (wg wu : Fin 2048 → Fin 5632 → EReal)
    (wd : Fin 5632 → Fin 2048 → EReal) (n : Fin 2048) : EReal :=
  x n + t ⟨10240 + n.val, by omega⟩ * ∑ j, hid (nrm x t g) wg wu j * wd j n

end Cert.FfnRow

namespace Cert.FfnRefIdeal.Rows

open Cert.FfnRefIdeal Cert.FfnRefIdeal.Gen Cert.FfnRefIdeal.Read Idealize.ShloMosaic Idealize.ShloMosaic.TcCoe Idealize.SL.Sem
open Cert.FfnRow

variable (x0 : FVec Ideal S4x4096x2048 .f32) (x1 : FVec Ideal S4x256x2048 .f32) (x2 : FVec Ideal S4x12288 .f32)
  (x3 : FVec Ideal S12288 .f32) (x4 : FVec Ideal S2048 .f32) (x5 x6 : FVec Ideal S2048x5632 .f32) (x7 : FVec Ideal S5632x2048 .f32)

/-- The reference's normed tokens. -/
theorem norm_sample (b : Fin 4) (p : Fin 4096) (k : Fin 2048) : val_main_v24 (F := Ideal) x0 x2 x4 (ix3 b p k)
    = nrm (fun k => x0 (ix3 b p k)) (fun k => x2 (ix2 b k)) (fun k => x4 (ix1 k)) k := by
  pointwise! [val_main_v0, val_main_v1, val_main_v2, val_main_v3, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, nrm]

/-- The reference's hidden layer. -/
theorem hidden_sample (b : Fin 4) (p : Fin 4096) (j : Fin 5632) : val_main_v28 (F := Ideal) x0 x2 x4 x5 x6 (ix3 b p j)
    = hid (nrm (fun k => x0 (ix3 b p k)) (fun k => x2 (ix2 b k)) (fun k => x4 (ix1 k)))
        (fun k j => x5 (ix2 k j)) (fun k j => x6 (ix2 k j)) j := by
  pointwise [val_main_v25, val_main_v26, val_main_v27, val_main_v28, val_main_call0_v0, val_main_call0_v1, val_main_call0_cst, val_main_call0_v2, val_main_call0_v3, val_main_call0_cst_0, val_main_call0_v4, val_main_call0_v5, hid, Ideal.logistic, norm_sample]

/-- The reference's result. -/
theorem out_sample (b : Fin 4) (p : Fin 4096) (n : Fin 2048) : val_main_v32 (F := Ideal) x0 x2 x4 x5 x6 x7 (ix3 b p n)
    = out (fun k => x0 (ix3 b p k)) (fun k => x2 (ix2 b k)) (fun k => x4 (ix1 k))
        (fun k j => x5 (ix2 k j)) (fun k j => x6 (ix2 k j)) (fun j n => x7 (ix2 j n)) n := by
  pointwise [val_main_v29, val_main_v30, val_main_v31, val_main_v32, val_main_v4, val_main_v5, out, hidden_sample]

/-- The reference's normed tokens. -/
theorem norm_ctx (b : Fin 4) (p : Fin 256) (k : Fin 2048) : val_main_v59 (F := Ideal) x1 x3 x4 (ix3 b p k)
    = nrm (fun k => x1 (ix3 b p k)) (fun k => x3 (ix1 k)) (fun k => x4 (ix1 k)) k := by
  pointwise! [val_main_v34, val_main_v35, val_main_v36, val_main_v37, val_main_v38, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst_3, val_main_cst_4, val_main_cst_5, val_main_cst_6, nrm]

/-- The reference's hidden layer. -/
theorem hidden_ctx (b : Fin 4) (p : Fin 256) (j : Fin 5632) : val_main_v63 (F := Ideal) x1 x3 x4 x5 x6 (ix3 b p j)
    = hid (nrm (fun k => x1 (ix3 b p k)) (fun k => x3 (ix1 k)) (fun k => x4 (ix1 k)))
        (fun k j => x5 (ix2 k j)) (fun k j => x6 (ix2 k j)) j := by
  pointwise [val_main_v60, val_main_v61, val_main_v62, val_main_v63, val_main_call1_v0, val_main_call1_v1, val_main_call1_cst, val_main_call1_v2, val_main_call1_v3, val_main_call1_cst_0, val_main_call1_v4, val_main_call1_v5, hid, Ideal.logistic, norm_ctx]

/-- The reference's result. -/
theorem out_ctx (b : Fin 4) (p : Fin 256) (n : Fin 2048) : val_main_v67 (F := Ideal) x1 x3 x4 x5 x6 x7 (ix3 b p n)
    = out (fun k => x1 (ix3 b p k)) (fun k => x3 (ix1 k)) (fun k => x4 (ix1 k))
        (fun k j => x5 (ix2 k j)) (fun k j => x6 (ix2 k j)) (fun j n => x7 (ix2 j n)) n := by
  pointwise [val_main_v64, val_main_v65, val_main_v66, val_main_v67, val_main_v34, val_main_v39, val_main_v40, out, hidden_ctx]

end Cert.FfnRefIdeal.Rows

namespace Cert.FfnIdeal.Blocks

open Cert.FfnIdeal Cert.FfnIdeal.Gen Idealize.ShloMosaic Idealize.ShloMosaic.TcCoe Idealize.SL.Sem
open Cert.FfnRow

/-- The three regions' result at a token is the row function of the token's row. -/
theorem resid_row (X : FVec Ideal S17408x2048 .f32) (T : FVec Ideal S8x1x12288 .f32) (g : FVec Ideal S1x2048 .f32)
    (wg wu : FVec Ideal S2048x5632 .bf16) (wd : FVec Ideal S5632x2048 .bf16) (r : Fin 17408) (n : Fin 2048) :
    resid (hidden (normed X T g) wg wu) wd X T (ix2 r n)
      = out (fun k => X (ix2 r k)) (fun k => T (ix3 (mr r) 0 k)) (fun k => g (ix2 0 k))
          (fun k j => wg (ix2 k j)) (fun k j => wu (ix2 k j)) (fun j n => wd (ix2 j n)) n := by
  rfl

/-- The regions' result from the arguments is the reference's. -/
theorem result_eq (x0 : FVec Ideal S4x4096x2048 .f32) (x1 : FVec Ideal S4x256x2048 .f32) (x2 : FVec Ideal S4x12288 .f32)
    (x3 : FVec Ideal S12288 .f32) (x4 : FVec Ideal S2048 .f32) (x5 x6 : FVec Ideal S2048x5632 .f32) (x7 : FVec Ideal S5632x2048 .f32) :
    resid (hidden (normed (toks x0 x1) (table x2 x3) (shapeCast S1x2048 x4 shapeCasts_S2048_S1x2048)) x5 x6) x7 (toks x0 x1) (table x2 x3)
      = Cert.FfnRefIdeal.Read.val_main_v69 (F := Ideal) x0 x1 x2 x3 x4 x5 x6 x7 := by
  funext i
  idx_vars i
  rw [resid_row]
  by_cases h : (i0 : ℕ) < 16384
  · have e : (mr i0).val = i0.val / 4096 := by simp only [mr, if_pos h]
    pointwise [Cert.FfnRefIdeal.Read.val_main_v69, Cert.FfnRefIdeal.Read.val_main_v33, toks, table, h, e, Cert.FfnRefIdeal.Rows.out_sample]
    simp only [dif_pos (show i0.val / 4096 < 4 by omega)]
  · have e : (mr i0).val = 4 := by simp only [mr, if_neg h]
    pointwise [Cert.FfnRefIdeal.Read.val_main_v69, Cert.FfnRefIdeal.Read.val_main_v68, toks, table, h, e, Cert.FfnRefIdeal.Rows.out_ctx]

end Cert.FfnIdeal.Blocks

end
-- ==== Proof.FfnClaim.lean ====
/- The dense channel mixer and its reference end with the same result. -/
module

public import proofs.«01_k».proof.Defs
public import proofs.«01_k».proof.Proof.FfnRef
public import Idealize.ShloMosaic.Lib.Claim

@[expose] public section

set_option maxRecDepth 16384

noncomputable section

namespace Cert.FfnIdeal.Blocks

open Cert.FfnIdeal Cert.FfnIdeal.Gen Idealize.ShloMosaic Idealize.ShloMosaic.TcCoe Idealize.SL.Sem

/-- The run: the result array holds what the third region leaves in it, the arguments are as launched. -/
theorem run_result (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v13) = W6 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨h.1 c _ (mem_uc main_v13 (by decide)),
    (h.1 c _ (mem_uc main_arg0 (by decide))).trans (W6_main_arg0 m ρ c),
    (h.1 c _ (mem_uc main_arg1 (by decide))).trans (W6_main_arg1 m ρ c),
    (h.1 c _ (mem_uc main_arg2 (by decide))).trans (W6_main_arg2 m ρ c),
    (h.1 c _ (mem_uc main_arg3 (by decide))).trans (W6_main_arg3 m ρ c),
    (h.1 c _ (mem_uc main_arg4 (by decide))).trans (W6_main_arg4 m ρ c),
    (h.1 c _ (mem_uc main_arg5 (by decide))).trans (W6_main_arg5 m ρ c),
    (h.1 c _ (mem_uc main_arg6 (by decide))).trans (W6_main_arg6 m ρ c),
    (h.1 c _ (mem_uc main_arg7 (by decide))).trans (W6_main_arg7 m ρ c)⟩, h.2⟩) (run_all m ρ)

/-- The channel mixer's result is its reference's. -/
theorem algebraic : Cert.algebraic_FfnIdeal_FfnRefIdeal := by
  pair_intro
  · run_from run_result m g
  · run_from Cert.FfnRefIdeal.Value.run m' g'
    · obtain ⟨h0, h1, h2, h3, h4, h5, h6, h7⟩ := hagree c
      rw [Cert.FfnRefIdeal.Read.val_main_v69_eq, h0, h1, h2, h3, h4, h5, h6, h7]
      exact ((W6_v13 m g c).trans (result_eq ..)).symm

end Cert.FfnIdeal.Blocks

end
-- ==== Proof.InBlocks.lean ====
/- The two regions of the input projection, each array it leaves read as one function of the arrays it finds. -/
module

public import proofs.«01_k».proof.Proof.Gen.InProjIdeal.Frame
public import Idealize.ShloMosaic.Lib.Pipeline.ValueKit
public import Idealize.ShloMosaic.Lib.Pointwise

@[expose] public section

set_option maxRecDepth 16384

noncomputable section

namespace Cert.InProjIdeal.Blocks

open Cert.InProjIdeal Cert.InProjIdeal.Gen Idealize.ShloMosaic Idealize.ShloMosaic.TcCoe Idealize.SL.Sem
open Idealize.ShloMosaic.Pipeline (Dat)

/-- The row of the modulation table a token reads: its sample's, or the fifth for a context token. -/
def mr (r : Fin 17408) : Fin 8 := ⟨if r.val < 16384 then r.val / 4096 else 4, by split <;> omega⟩

/-- The modulated RMSNorm of every token. -/
def normed (X : FVec Ideal S17408x2048 .f32) (T : FVec Ideal S8x1x12288 .f32) (g : FVec Ideal S1x2048 .f32) :
    FVec Ideal S17408x2048 .bf16 := fun i =>
  X (ix2 (i 0) (i 1)) * Ideal.rsqrt (Ideal.div (∑ k : Fin 2048, X (ix2 (i 0) k) * X (ix2 (i 0) k))
      (Ideal.ofBits .f32 0x45000000#32) + Ideal.ofBits .f32 0x358637BD#32) * g (ix2 0 (i 1))
    * (1 + T (ix3 (mr (i 0)) 0 ⟨2048 + (i 1).val, by have h : (i 1).val < 2048 := (i 1).isLt; omega⟩))
    + T (ix3 (mr (i 0)) 0 ⟨(i 1).val, by have h : (i 1).val < 2048 := (i 1).isLt; omega⟩)

/-- The projection of every token onto the packed columns. -/
def projected (u : FVec Ideal S17408x2048 .bf16) (w : FVec Ideal S2048x14080 .bf16) :
    FVec Ideal S17408x14080 .f32 := fun i => ∑ k : Fin 2048, u (ix2 (i 0) k) * w (ix2 k (i 1))

variable (V : (c : Dev nD) → (b : Ref sig .tc) → Buf (Elt Ideal) ((c : Thread nD τ).loc b))

/-- The block indices of the first region's windows. -/
theorem idx0 : ∀ t : Fin cfg0.N, win0_0.index t = ![t.val, 0] ∧ win0_1.index t = ![0, 0]
    ∧ win0_2.index t = ![if t.val < 16 then t.val / 4 else 4, 0, 0]
    ∧ win0_3.index t = ![if t.val < 16 then t.val / 4 else 4, 0, 1] ∧ win0_4.index t = ![t.val, 0] :=
  (by decide +kernel : ∀ t : Fin grid0.N, _)

/-- What the first region's body stores is the modulated RMSNorm at the place it is stored. -/
theorem point0 (c : Dev nD) (t : Fin cfg0.N) (y) :
    k0_pay1 (iblk0 V c 0 t) (iblk0 V c 1 t) (iblk0 V c 3 t) (iblk0 V c 2 t) y
      = normed (V c main_v2) (V c main_v6) (V c main_v7) (((cfg0.win 4).blk t).view.emb y) := by
  pointwise [k0_pay1, normed]
  blk_point [iblk0, idx0 t, mr]
  all_goals (split_ifs <;> omega)

/-- The array the first region leaves. -/
theorem final0 (c : Dev nD) : (dat0 V c).arrAt 4 cfg0.N = normed (V c main_v2) (V c main_v6) (V c main_v7) := by
  refine (dat0 V c).arrAt_eq_of_covers 4 _ (by decide +kernel) fun t _ y => ?_
  blk_simp
  rw [after0_4]; frame_out
  exact point0 V c t y

/-- The block indices of the second region's windows. -/
theorem idx1 : ∀ t : Fin cfg1.N, win1_0.index t = ![t.val % 17, 0] ∧ win1_1.index t = ![0, t.val / 17]
    ∧ win1_2.index t = ![t.val % 17, t.val / 17] :=
  (by decide +kernel : ∀ t : Fin grid1.N, _)

/-- What the second region's body stores is the projection at the place it is stored. -/
theorem point1 (c : Dev nD) (t : Fin cfg1.N) (y) : k1_pay1 (iblk1 V c 0 t) (iblk1 V c 1 t) y
      = projected (V c main_v8) (V c main_v27) (((cfg1.win 2).blk t).view.emb y) := by
  pointwise [k1_pay1, projected]
  blk_point [iblk1, idx1 t]

/-- The array the second region leaves. -/
theorem final1 (c : Dev nD) : (dat1 V c).arrAt 2 cfg1.N = projected (V c main_v8) (V c main_v27) := by
  refine (dat1 V c).arrAt_eq_of_covers 2 _ (by decide +kernel) fun t _ y => ?_
  blk_simp
  rw [after1_2]; frame_out
  exact point1 V c t y

end Cert.InProjIdeal.Blocks

end
-- ==== Proof.InRun.lean ====
/- The run of the input projection: what its result array holds when the program ends. -/
module

public import proofs.«01_k».proof.Proof.InBlocks

@[expose] public section

set_option maxRecDepth 16384

noncomputable section

namespace Cert.InProjIdeal.Blocks

open Cert.InProjIdeal Cert.InProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The tokens of the two streams in one array, as the host lays them out. -/
abbrev toks (x0 : FVec Ideal S4x4096x2048 .f32) (x1 : FVec Ideal S4x256x2048 .f32) : FVec Ideal S17408x2048 .f32 :=
  concatenate S17408x2048 0 [⟨S16384x2048, shapeCast S16384x2048 x0 shapeCasts_S4x4096x2048_S16384x2048⟩,
    ⟨S1024x2048, shapeCast S1024x2048 x1 shapeCasts_S4x256x2048_S1024x2048⟩] concatenates_S16384x2048_S1024x2048_S17408x2048_d0

/-- The modulation rows of the four samples, of the context, and three of zeros. -/
abbrev table (x2 : FVec Ideal S4x12288 .f32) (x3 : FVec Ideal S12288 .f32) : FVec Ideal S8x1x12288 .f32 :=
  shapeCast S8x1x12288 (concatenate S8x12288 0 [⟨S4x12288, x2⟩, ⟨S1x12288, broadcastInDim S1x12288 ![1] bcast_S12288_S1x12288_1 x3⟩,
    ⟨S3x12288, broadcastInDim S3x12288 ![] bcast_S_S3x12288 (constant S_ .f32 0#32)⟩]
    concatenates_S4x12288_S1x12288_S3x12288_S8x12288_d0) shapeCasts_S8x12288_S8x1x12288

/-- The tokens the first region finds. -/
theorem V1_v2 (c : Dev nD) : V1 m ρ c main_v2 = toks (m ((c : Thread nD τ).loc main_arg0)) (m ((c : Thread nD τ).loc main_arg1)) := by
  unfold V1 W1
  after_results_simp
  rfl

/-- The norm's gain the first region finds. -/
theorem V1_v7 (c : Dev nD) : V1 m ρ c main_v7 = shapeCast S1x2048 (m ((c : Thread nD τ).loc main_arg4)) shapeCasts_S2048_S1x2048 := by
  unfold V1 W1
  after_results_simp
  rfl

/-- The modulation table the first region finds. -/
theorem V1_v6 (c : Dev nD) : V1 m ρ c main_v6 = table (m ((c : Thread nD τ).loc main_arg2)) (m ((c : Thread nD τ).loc main_arg3)) := by
  unfold V1 W1
  after_results_simp
  rfl

/-- The weights' column groups as the version packs them. -/
abbrev packed (w : FVec Ideal S2048x13840 .f32) : FVec Ideal S2048x14080 .f32 :=
  concatenate S2048x14080 1 [⟨S2048x3072, (extractStridedSlice S2048x3072 ![0, 0] w slices_S2048x13840_S2048x3072_0_0)⟩,
    ⟨S2048x1024, (extractStridedSlice S2048x1024 ![0, 3072] w slices_S2048x13840_S2048x1024_0_3072)⟩,
    ⟨S2048x1024, (extractStridedSlice S2048x1024 ![0, 5632] w slices_S2048x13840_S2048x1024_0_5632)⟩,
    ⟨S2048x1024, (extractStridedSlice S2048x1024 ![0, 6656] w slices_S2048x13840_S2048x1024_0_6656)⟩,
    ⟨S2048x6144, (extractStridedSlice S2048x6144 ![0, 7696] w slices_S2048x13840_S2048x6144_0_7696)⟩,
    ⟨S2048x256, (extractStridedSlice S2048x256 ![0, 4096] w slices_S2048x13840_S2048x256_0_4096)⟩,
    ⟨S2048x256, (extractStridedSlice S2048x256 ![0, 4352] w slices_S2048x13840_S2048x256_0_4352)⟩,
    ⟨S2048x512, (extractStridedSlice S2048x512 ![0, 4608] w slices_S2048x13840_S2048x512_0_4608)⟩,
    ⟨S2048x512, (extractStridedSlice S2048x512 ![0, 5120] w slices_S2048x13840_S2048x512_0_5120)⟩,
    ⟨S2048x128, (concatenate S2048x128 1 [⟨S2048x8, extractStridedSlice S2048x8 ![0, 0] (extractStridedSlice S2048x16 ![0, 7680] w slices_S2048x13840_S2048x16_0_7680) slices_S2048x16_S2048x8_0_0⟩,
    ⟨S2048x120, (broadcastInDim S2048x120 ![] bcast_S_S2048x120 (constant (F := Ideal) S_ .f32 0#32))⟩] concatenates_S2048x8_S2048x120_S2048x128_d1)⟩,
    ⟨S2048x128, (concatenate S2048x128 1 [⟨S2048x8, extractStridedSlice S2048x8 ![0, 8] (extractStridedSlice S2048x16 ![0, 7680] w slices_S2048x13840_S2048x16_0_7680) slices_S2048x16_S2048x8_0_8⟩,
    ⟨S2048x120, (broadcastInDim S2048x120 ![] bcast_S_S2048x120 (constant (F := Ideal) S_ .f32 0#32))⟩] concatenates_S2048x8_S2048x120_S2048x128_d1)⟩,
    ⟨S2048x0, (broadcastInDim S2048x0 ![] bcast_S_S2048x0 (constant (F := Ideal) S_ .f32 0#32))⟩] concatenates_S2048x3072_S2048x1024_S2048x1024_S2048x1024_S2048x6144_S2048x256_S2048x256_S2048x512_S2048x512_S2048x128_S2048x128_S2048x0_S2048x14080_d1

/-- The projection's column groups in the order of the weights. -/
abbrev regrouped (z : FVec Ideal S17408x14080 .f32) : FVec Ideal S17408x13840 .f32 :=
  concatenate S17408x13840 1 [⟨S17408x3072, (extractStridedSlice S17408x3072 ![0, 0] z slices_S17408x14080_S17408x3072_0_0)⟩,
    ⟨S17408x1024, (extractStridedSlice S17408x1024 ![0, 3072] z slices_S17408x14080_S17408x1024_0_3072)⟩,
    ⟨S17408x256, (extractStridedSlice S17408x256 ![0, 12288] z slices_S17408x14080_S17408x256_0_12288)⟩,
    ⟨S17408x256, (extractStridedSlice S17408x256 ![0, 12544] z slices_S17408x14080_S17408x256_0_12544)⟩,
    ⟨S17408x512, (extractStridedSlice S17408x512 ![0, 12800] z slices_S17408x14080_S17408x512_0_12800)⟩,
    ⟨S17408x512, (extractStridedSlice S17408x512 ![0, 13312] z slices_S17408x14080_S17408x512_0_13312)⟩,
    ⟨S17408x1024, (extractStridedSlice S17408x1024 ![0, 4096] z slices_S17408x14080_S17408x1024_0_4096)⟩,
    ⟨S17408x1024, (extractStridedSlice S17408x1024 ![0, 5120] z slices_S17408x14080_S17408x1024_0_5120)⟩,
    ⟨S17408x8, (extractStridedSlice S17408x8 ![0, 13824] z slices_S17408x14080_S17408x8_0_13824)⟩,
    ⟨S17408x8, (extractStridedSlice S17408x8 ![0, 13952] z slices_S17408x14080_S17408x8_0_13952)⟩,
    ⟨S17408x6144, (extractStridedSlice S17408x6144 ![0, 6144] z slices_S17408x14080_S17408x6144_0_6144)⟩] concatenates_S17408x3072_S17408x1024_S17408x256_S17408x256_S17408x512_S17408x512_S17408x1024_S17408x1024_S17408x8_S17408x8_S17408x6144_S17408x13840_d1

/-- The packed weights the second region finds. -/
theorem V4_v27 (c : Dev nD) : V4 m ρ c main_v27 = truncf .bf16 (packed (m ((c : Thread nD τ).loc main_arg5))) bitsLt_bf16_f32 := by
  refine (W4_of m ρ c main_v27 (by decide)).trans ?_
  rw [← W2_args m ρ c main_arg5 (by decide)]
  unfold W3
  after_results_simp
  rfl

/-- The normed tokens the second region finds. -/
theorem V4_v8 (c : Dev nD) : V4 m ρ c main_v8 = normed (V1 m ρ c main_v2) (V1 m ρ c main_v6) (V1 m ρ c main_v7) :=
  (W4_of m ρ c main_v8 (by decide)).trans ((W3_of m ρ c main_v8 (by decide)).trans ((W2_arr m ρ c 4).trans (final0 (V1 m ρ) c)))

/-- The projection the second region leaves. -/
theorem W5_v30 (c : Dev nD) : W5 m ρ c (Proc.devRef .tc main_v30) = projected (V4 m ρ c main_v8) (V4 m ρ c main_v27) :=
  (W5_arr m ρ c 2).trans (final1 (V4 m ρ) c)

/-- The result is the projection's columns regrouped. -/
theorem W6_regrouped (c : Dev nD) : W6 m ρ c (Proc.devRef .tc main_v44) = regrouped (W5 m ρ c (Proc.devRef .tc main_v30)) := by
  unfold W6
  after_results_simp
  rfl

/-- What the result array holds, from the arguments. -/
theorem W6_v44 (c : Dev nD) : W6 m ρ c (Proc.devRef .tc main_v44)
    = regrouped (projected (normed (toks (m ((c : Thread nD τ).loc main_arg0)) (m ((c : Thread nD τ).loc main_arg1)))
          (table (m ((c : Thread nD τ).loc main_arg2)) (m ((c : Thread nD τ).loc main_arg3)))
          (shapeCast S1x2048 (m ((c : Thread nD τ).loc main_arg4)) shapeCasts_S2048_S1x2048))
        (truncf .bf16 (packed (m ((c : Thread nD τ).loc main_arg5))) bitsLt_bf16_f32)) := by
  rw [W6_regrouped, W5_v30, V4_v8, V4_v27, V1_v2, V1_v6, V1_v7]

set_option backward.isDefEq.respectTransparency.types false in
/-- Every execution ends with every buffer of the program holding what the last region leaves in it, and no counter up. -/
theorem run_all : θ_run defs (onTc (τ := τ) (main (F := Ideal))) ⟨m, fun _ => 0, ρ⟩ (fun r =>
      (∀ c : Dev nD, ∀ b ∈ Pipeline.ucRefs τ sig, r.2.mem (((c : Thread nD τ)).1, b) = W6 m ρ c b)
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Cert.InProjIdeal.Blocks

end
-- ==== Proof.InRef.lean ====
/- What the reference of the input projection says, row by row, and that the two regions and the host's regrouping leave the same. -/
module

public import proofs.«01_k».proof.Proof.InRun
public import proofs.«01_k».proof.Proof.Gen.InProjRefIdeal.Run
public import proofs.«01_k».proof.Proof.Gen.InProjRefIdeal.Read
public import Idealize.ShloMosaic.Lib.Pointwise

@[expose] public section

set_option maxRecDepth 16384

noncomputable section

namespace Cert.InRow

open Idealize.ShloMosaic Idealize.ShloMosaic.TcCoe Idealize.SL.Sem

/-- One token's modulated RMSNorm, from its row, its modulation row and the gain. -/
def nrm (x : Fin 2048 → EReal) (t : Fin 12288 → EReal) (g : Fin 2048 → EReal) (k : Fin 2048) : EReal :=
  x k * Ideal.rsqrt (Ideal.div (∑ k, x k * x k) (Ideal.ofBits .f32 0x45000000#32) + Ideal.ofBits .f32 0x358637BD#32) * g k
    * (1 + t ⟨2048 + k.val, by omega⟩) + t ⟨k.val, by omega⟩

/-- The packed column that holds a column of the weights. -/
def col (n : Fin 13840) : Fin 14080 :=
  ⟨if n.val < 4096 then n.val else if n.val < 5632 then n.val + 8192 else if n.val < 7680 then n.val - 1536
    else if n.val < 7688 then n.val + 6144 else if n.val < 7696 then n.val + 6264 else n.val - 1552, by split_ifs <;> omega⟩

/-- Where each column group of the weights lies. -/
theorem col_cases (n : Fin 13840) : (n.val < 4096 ∧ (col n).val = n.val) ∨ (4096 ≤ n.val ∧ n.val < 5632 ∧ (col n).val = n.val + 8192)
    ∨ (5632 ≤ n.val ∧ n.val < 7680 ∧ (col n).val + 1536 = n.val) ∨ (7680 ≤ n.val ∧ n.val < 7688 ∧ (col n).val = n.val + 6144)
    ∨ (7688 ≤ n.val ∧ n.val < 7696 ∧ (col n).val = n.val + 6264) ∨ (7696 ≤ n.val ∧ (col n).val + 1552 = n.val) := by
  simp only [col]
  split_ifs <;> omega

/-- A choice equals what both its branches equal. -/
theorem either {α : Type} {p : Prop} [Decidable p] {a : p → α} {b : ¬p → α} {x : α} (ha : ∀ h, a h = x) (hb : ∀ h, b h = x) :
    dite p a b = x := by
  by_cases h : p
  · rw [dif_pos h, ha h]
  · rw [dif_neg h, hb h]

end Cert.InRow

namespace Cert.InProjRefIdeal.Rows

open Cert.InProjRefIdeal Cert.InProjRefIdeal.Gen Cert.InProjRefIdeal.Read Idealize.ShloMosaic Idealize.ShloMosaic.TcCoe Idealize.SL.Sem
open Cert.InRow

variable (x0 : FVec Ideal S4x4096x2048 .f32) (x1 : FVec Ideal S4x256x2048 .f32) (x2 : FVec Ideal S4x12288 .f32)
  (x3 : FVec Ideal S12288 .f32) (x4 : FVec Ideal S2048 .f32) (x5 : FVec Ideal S2048x13840 .f32)

/-- The reference's normed tokens. -/
theorem norm_sample (b : Fin 4) (p : Fin 4096) (k : Fin 2048) : val_main_v22 (F := Ideal) x0 x2 x4 (ix3 b p k)
    = nrm (fun k => x0 (ix3 b p k)) (fun k => x2 (ix2 b k)) (fun k => x4 (ix1 k)) k := by
  pointwise! [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0, val_main_cst_1, val_main_cst_2, nrm]

/-- The reference's projection. -/
theorem proj_sample (b : Fin 4) (p : Fin 4096) (n : Fin 13840) : val_main_v23 (F := Ideal) x0 x2 x4 x5 (ix3 b p n)
    = ∑ k, nrm (fun k => x0 (ix3 b p k)) (fun k => x2 (ix2 b k)) (fun k => x4 (ix1 k)) k * x5 (ix2 k n) := by
  pointwise [val_main_v23, norm_sample]

/-- The reference's normed context tokens. -/
theorem norm_ctx (b : Fin 4) (p : Fin 256) (k : Fin 2048) : val_main_v48 (F := Ideal) x1 x3 x4 (ix3 b p k)
    = nrm (fun k => x1 (ix3 b p k)) (fun k => x3 (ix1 k)) (fun k => x4 (ix1 k)) k := by
  pointwise! [val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst_3, val_main_cst_4, val_main_cst_5, val_main_cst_6, nrm]

/-- The reference's projection of the context. -/
theorem proj_ctx (b : Fin 4) (p : Fin 256) (n : Fin 13840) : val_main_v49 (F := Ideal) x1 x3 x4 x5 (ix3 b p n)
    = ∑ k, nrm (fun k => x1 (ix3 b p k)) (fun k => x3 (ix1 k)) (fun k => x4 (ix1 k)) k * x5 (ix2 k n) := by
  pointwise [val_main_v49, norm_ctx]

end Cert.InProjRefIdeal.Rows

namespace Cert.InProjIdeal.Blocks

open Cert.InProjIdeal Cert.InProjIdeal.Gen Idealize.ShloMosaic Idealize.ShloMosaic.TcCoe Idealize.SL.Sem
open Cert.InRow

/-- The regrouped projection reads the packed column. -/
theorem regrouped_apply (z : FVec Ideal S17408x14080 .f32) (r : Fin 17408) (n : Fin 13840) :
    regrouped z (ix2 r n) = z (ix2 r (col n)) := by
  generalize hc : col n = j
  have hj := (col_cases n)
  rw [hc] at hj
  clear hc
  obtain ⟨n, hn⟩ := n
  obtain ⟨j, hj'⟩ := j
  simp only [] at hj
  pointwise [regrouped]
  repeat' refine either (fun h => ?_) (fun h => ?_)
  all_goals exact congrArg (fun a => z (ix2 r a)) (Fin.ext (by simp only []; omega))

/-- The packed weights at the packed column are the weights. -/
theorem packed_apply (w : FVec Ideal S2048x13840 .f32) (k : Fin 2048) (n : Fin 13840) :
    packed w (ix2 k (col n)) = w (ix2 k n) := by
  generalize hc : col n = j
  have hj := (col_cases n)
  rw [hc] at hj
  clear hc
  obtain ⟨n, hn⟩ := n
  obtain ⟨j, hj'⟩ := j
  simp only [] at hj
  pointwise [packed]
  repeat' refine either (fun h => ?_) (fun h => ?_)
  all_goals first
    | exact congrArg (fun a => w (ix2 k a)) (Fin.ext (by simp only []; omega))
    | (exfalso; omega)

/-- The regions' result at a token is the row function of the token's row. -/
theorem row (X : FVec Ideal S17408x2048 .f32) (T : FVec Ideal S8x1x12288 .f32) (g : FVec Ideal S1x2048 .f32)
    (w : FVec Ideal S2048x13840 .f32) (r : Fin 17408) (n : Fin 13840) :
    regrouped (projected (normed X T g) (truncf .bf16 (packed w) bitsLt_bf16_f32)) (ix2 r n)
      = ∑ k, nrm (fun k => X (ix2 r k)) (fun k => T (ix3 (mr r) 0 k)) (fun k => g (ix2 0 k)) k * w (ix2 k n) := by
  rw [regrouped_apply]
  refine Finset.sum_congr rfl fun k _ => ?_
  rw [← packed_apply w k n]
  rfl

/-- The result from the arguments is the reference's. -/
theorem result_eq (x0 : FVec Ideal S4x4096x2048 .f32) (x1 : FVec Ideal S4x256x2048 .f32) (x2 : FVec Ideal S4x12288 .f32)
    (x3 : FVec Ideal S12288 .f32) (x4 : FVec Ideal S2048 .f32) (x5 : FVec Ideal S2048x13840 .f32) :
    regrouped (projected (normed (toks x0 x1) (table x2 x3) (shapeCast S1x2048 x4 shapeCasts_S2048_S1x2048))
        (truncf .bf16 (packed x5) bitsLt_bf16_f32))
      = Cert.InProjRefIdeal.Read.val_main_v51 (F := Ideal) x0 x1 x2 x3 x4 x5 := by
  funext i
  idx_vars i
  rw [row]
  by_cases h : (i0 : ℕ) < 16384
  · have e : (mr i0).val = i0.val / 4096 := by simp only [mr, if_pos h]
    pointwise [Cert.InProjRefIdeal.Read.val_main_v51, Cert.InProjRefIdeal.Read.val_main_v24, toks, table, h, e, Cert.InProjRefIdeal.Rows.proj_sample]
    simp only [dif_pos (show i0.val / 4096 < 4 by omega)]
  · have e : (mr i0).val = 4 := by simp only [mr, if_neg h]
    pointwise [Cert.InProjRefIdeal.Read.val_main_v51, Cert.InProjRefIdeal.Read.val_main_v50, toks, table, h, e, Cert.InProjRefIdeal.Rows.proj_ctx]

end Cert.InProjIdeal.Blocks

end
-- ==== Proof.InClaim.lean ====
/- The input projection and its reference end with the same result. -/
module

public import proofs.«01_k».proof.Defs
public import proofs.«01_k».proof.Proof.InRef
public import Idealize.ShloMosaic.Lib.Claim

@[expose] public section

set_option maxRecDepth 16384

noncomputable section

namespace Cert.InProjIdeal.Blocks

open Cert.InProjIdeal Cert.InProjIdeal.Gen Idealize.ShloMosaic Idealize.ShloMosaic.TcCoe Idealize.SL.Sem

/-- The run: the result array holds what the last region leaves in it, the arguments are as launched. -/
theorem run_result (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨h.1 c _ (mem_uc main_v44 (by decide)),
    (h.1 c _ (mem_uc main_arg0 (by decide))).trans (W6_main_arg0 m ρ c),
    (h.1 c _ (mem_uc main_arg1 (by decide))).trans (W6_main_arg1 m ρ c),
    (h.1 c _ (mem_uc main_arg2 (by decide))).trans (W6_main_arg2 m ρ c),
    (h.1 c _ (mem_uc main_arg3 (by decide))).trans (W6_main_arg3 m ρ c),
    (h.1 c _ (mem_uc main_arg4 (by decide))).trans (W6_main_arg4 m ρ c),
    (h.1 c _ (mem_uc main_arg5 (by decide))).trans (W6_main_arg5 m ρ c)⟩, h.2⟩) (run_all m ρ)

/-- The input projection's result is its reference's. -/
theorem algebraic : Cert.algebraic_InProjIdeal_InProjRefIdeal := by
  intro m g m' g' hpre hagree
  refine ⟨fun c => W6 m g c (Proc.devRef .tc main_v44), ?_, ?_⟩
  · exact (θ_run _ _ _).mono (fun _ h => h.1) (run_result m g)
  · refine (θ_run _ _ _).mono (fun _ h c => ⟨(h c).1.trans ?_, (h c).2⟩) (Cert.InProjRefIdeal.Value.run m' g')
    obtain ⟨h0, h1, h2, h3, h4, h5⟩ := hagree c
    rw [Cert.InProjRefIdeal.Read.val_main_v51_eq, h0, h1, h2, h3, h4, h5]
    exact ((W6_v44 m g c).trans (result_eq ..)).symm

end Cert.InProjIdeal.Blocks

end
-- ==== Proof.OutValue.lean ====
/- The output projection with its gated residual: the array the region leaves, and the reference's. -/
module

public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutProjIdeal.Blocks

open Cert.OutProjIdeal Cert.OutProjIdeal.Gen Idealize.ShloMosaic Idealize.ShloMosaic.TcCoe Idealize.SL.Sem
open Idealize.ShloMosaic.Pipeline (Dat)

/-- The row of the modulation table a token reads: its sample's, or the fifth for a context token. -/
def mr (r : Fin 17408) : Fin 8 := ⟨if r.val < 16384 then r.val / 4096 else 4, by split <;> omega⟩

/-- The gated residual of every token. -/
def resid (u : FVec Ideal S17408x2048 .bf16) (w : FVec Ideal S2048x2048 .bf16) (X : FVec Ideal S17408x2048 .f32)
    (T : FVec Ideal S8x1x12288 .f32) : FVec Ideal S17408x2048 .f32 := fun i =>
  X (ix2 (i 0) (i 1)) + T (ix3 (mr (i 0)) 0 ⟨4096 + (i 1).val, by have h : (i 1).val < 2048 := (i 1).isLt; omega⟩)
    * ∑ k : Fin 2048, u (ix2 (i 0) k) * w (ix2 k (i 1))

variable (m : (ℓ : Loc nD τ sig) → Buf (Elt Ideal) ℓ) (ρ : Dev nD → PrngReg)

/-- The tokens of the two streams in one array, as the host lays them out. -/
abbrev toks (x0 : FVec Ideal S4x4096x2048 .f32) (x1 : FVec Ideal S4x256x2048 .f32) : FVec Ideal S17408x2048 .f32 :=
  concatenate S17408x2048 0 [⟨S16384x2048, shapeCast S16384x2048 x0 shapeCasts_S4x4096x2048_S16384x2048⟩,
    ⟨S1024x2048, shapeCast S1024x2048 x1 shapeCasts_S4x256x2048_S1024x2048⟩] concatenates_S16384x2048_S1024x2048_S17408x2048_d0

/-- The modulation rows of the four samples, of the context, and three of zeros. -/
abbrev table (x2 : FVec Ideal S4x12288 .f32) (x3 : FVec Ideal S12288 .f32) : FVec Ideal S8x1x12288 .f32 :=
  shapeCast S8x1x12288 (concatenate S8x12288 0 [⟨S4x12288, x2⟩, ⟨S1x12288, broadcastInDim S1x12288 ![1] bcast_S12288_S1x12288_1 x3⟩,
    ⟨S3x12288, broadcastInDim S3x12288 ![] bcast_S_S3x12288 (constant S_ .f32 0#32)⟩]
    concatenates_S4x12288_S1x12288_S3x12288_S8x12288_d0) shapeCasts_S8x12288_S8x1x12288

/-- The tokens the region finds. -/
theorem V_toks (c : Dev nD) : V m c main_v2 = toks (m ((c : Thread nD τ).loc main_arg2)) (m ((c : Thread nD τ).loc main_arg3)) := by
  unfold V
  after_results_simp
  rfl

/-- The modulation table the region finds. -/
theorem V_table (c : Dev nD) : V m c main_v6 = table (m ((c : Thread nD τ).loc main_arg4)) (m ((c : Thread nD τ).loc main_arg5)) := by
  unfold V
  after_results_simp
  rfl

/-- The weights the region finds. -/
theorem V_w (c : Dev nD) : V m c main_v7 = m ((c : Thread nD τ).loc main_arg1) := by
  unfold V
  after_results_simp
  rfl

/-- The block indices of the region's windows. -/
theorem idx : ∀ t : Fin cfg0.N, win0_0.index t = ![t.val % 17, 0] ∧ win0_1.index t = ![0, t.val / 17]
    ∧ win0_2.index t = ![t.val % 17, t.val / 17]
    ∧ win0_3.index t = ![if t.val % 17 < 16 then t.val % 17 / 4 else 4, 0, 4 + t.val / 17]
    ∧ win0_4.index t = ![t.val % 17, t.val / 17] :=
  (by decide +kernel : ∀ t : Fin grid0.N, _)

/-- What the body stores is the gated residual at the place it is stored. -/
theorem point (c : Dev nD) (t : Fin cfg0.N) (y) :
    k0_pay1 (iblk m c 0 t) (iblk m c 1 t) (iblk m c 2 t) (iblk m c 3 t) y
      = resid (V m c main_arg0) (V m c main_v7) (V m c main_v2) (V m c main_v6) (((cfg0.win 4).blk t).view.emb y) := by
  unfold iblk
  generalize V m c = Z
  pointwise [k0_pay1, resid]
  blk_point [idx t, mr]
  all_goals (split_ifs <;> omega)

/-- The array the region leaves. -/
theorem final (c : Dev nD) : (dats m 0 c).arrAt 4 (cfgs 0).N
    = resid (m ((c : Thread nD τ).loc main_arg0)) (m ((c : Thread nD τ).loc main_arg1))
        (toks (m ((c : Thread nD τ).loc main_arg2)) (m ((c : Thread nD τ).loc main_arg3)))
        (table (m ((c : Thread nD τ).loc main_arg4)) (m ((c : Thread nD τ).loc main_arg5))) := by
  rw [← V_toks m c, ← V_table m c, ← V_w m c, ← V_main_arg0 m c]
  refine (dats m 0 c).arrAt_eq_of_covers 4 _ (by decide +kernel) fun t _ y => ?_
  blk_simp
  rw [after0_4]; frame_out
  exact point m c t y

end Cert.OutProjIdeal.Blocks

namespace Cert.OutProjRefIdeal.Rows

open Cert.OutProjRefIdeal Cert.OutProjRefIdeal.Gen Cert.OutProjRefIdeal.Read Idealize.ShloMosaic Idealize.ShloMosaic.TcCoe Idealize.SL.Sem
open Cert.OutProjIdeal.Blocks

/-- The region's result from the arguments is the reference's. -/
theorem result_eq (u : FVec Ideal S17408x2048 .bf16) (w : FVec Ideal S2048x2048 .f32) (x0 : FVec Ideal S4x4096x2048 .f32)
    (x1 : FVec Ideal S4x256x2048 .f32) (x2 : FVec Ideal S4x12288 .f32) (x3 : FVec Ideal S12288 .f32) :
    resid u w (toks x0 x1) (table x2 x3) = val_main_v20 (F := Ideal) u w x0 x1 x2 x3 := by
  funext i
  idx_vars i
  by_cases h : (i0 : ℕ) < 16384
  · have e : (mr i0).val = i0.val / 4096 := by simp only [mr, if_pos h]
    pointwise [resid, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, toks, table, h, e]
    simp only [dif_pos (show i0.val / 4096 < 4 by omega), show i0.val / 4096 * 4096 + i0.val % 4096 = i0.val by omega]
  · have e : (mr i0).val = 4 := by simp only [mr, if_neg h]
    pointwise [resid, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, toks, table, h, e]
    simp only [show 16384 + ((i0.val - 16384) / 256 * 256 + (i0.val - 16384) % 256) = i0.val by omega]

end Cert.OutProjRefIdeal.Rows

namespace Cert.OutProjIdeal.Blocks

open Cert.OutProjIdeal Cert.OutProjIdeal.Gen Idealize.ShloMosaic Idealize.ShloMosaic.TcCoe Idealize.SL.Sem

/-- The output projection's result is its reference's. -/
theorem algebraic : Cert.algebraic_OutProjIdeal_OutProjRefIdeal := by
  intro m g m' g' hpre hagree
  refine ⟨fun c => (dats m 0 c).arrAt 4 (cfgs 0).N, ?_, ?_⟩
  · exact Cert.OutProjIdeal.Value.run_blocks m g
  · refine (θ_run _ _ _).mono (fun _ h c => ⟨(h c).1.trans ?_, (h c).2⟩) (Cert.OutProjRefIdeal.Value.run m' g')
    obtain ⟨h0, h1, h2, h3, h4, h5⟩ := hagree c
    rw [Cert.OutProjRefIdeal.Read.val_main_v20_eq, h0, h1, h2, h3, h4, h5]
    exact ((final m c).trans (Cert.OutProjRefIdeal.Rows.result_eq ..)).symm

end Cert.OutProjIdeal.Blocks

end
-- ==== Proof.MergeValue.lean ====
/- The gated sum of the three branches: the array the region leaves, and the reference's. -/
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MergeIdeal.Blocks

open Cert.MergeIdeal Cert.MergeIdeal.Gen Idealize.ShloMosaic Idealize.ShloMosaic.TcCoe Idealize.SL.Sem
open Idealize.ShloMosaic.Pipeline (Dat)

/-- The gated sum of the three branches' projections. -/
def merged (a b d : FVec Ideal S17408x1024 .bf16) (w : FVec Ideal S3x1024x2048 .bf16) (z : FVec Ideal S17408x14080 .f32) :
    FVec Ideal S17408x2048 .bf16 := fun i =>
  Ideal.logistic (z (ix2 (i 0) ⟨6144 + (i 1).val, by have h : (i 1).val < 2048 := (i 1).isLt; omega⟩)) * (∑ k : Fin 1024, a (ix2 (i 0) k) * w (ix3 0 k (i 1)))
    + Ideal.logistic (z (ix2 (i 0) ⟨8192 + (i 1).val, by have h : (i 1).val < 2048 := (i 1).isLt; omega⟩)) * (∑ k : Fin 1024, b (ix2 (i 0) k) * w (ix3 1 k (i 1)))
    + Ideal.logistic (z (ix2 (i 0) ⟨10240 + (i 1).val, by have h : (i 1).val < 2048 := (i 1).isLt; omega⟩)) * (∑ k : Fin 1024, d (ix2 (i 0) k) * w (ix3 2 k (i 1)))

variable (m : (ℓ : Loc nD τ sig) → Buf (Elt Ideal) ℓ) (ρ : Dev nD → PrngReg)

/-- The weights the region finds. -/
theorem V_w (c : Dev nD) : V m c main_v0 = m ((c : Thread nD τ).loc main_arg3) := by
  unfold V
  after_results_simp
  rfl

/-- The block indices of the region's windows. -/
theorem idx : ∀ t : Fin cfg0.N, win0_0.index t = ![t.val % 34, 0] ∧ win0_1.index t = ![t.val % 34, 0] ∧ win0_2.index t = ![t.val % 34, 0]
    ∧ win0_3.index t = ![0, 0, t.val / 34] ∧ win0_4.index t = ![t.val % 34, 6 + t.val / 34] ∧ win0_5.index t = ![t.val % 34, 8 + t.val / 34]
    ∧ win0_6.index t = ![t.val % 34, 10 + t.val / 34] ∧ win0_7.index t = ![t.val % 34, t.val / 34] :=
  (by decide +kernel : ∀ t : Fin grid0.N, _)

/-- A gate block the body reads is the gate's columns of the projection at the point's rows. -/
theorem gate4 (c : Dev nD) (t : Fin cfg0.N) (y : S512x1024.Idx) : X0_4 m c t y
    = V m c main_arg4 (ix2 ⟨t.val % 34 * 512 + (y 0).val, by have h : (y 0).val < 512 := (y 0).isLt; omega⟩
        ⟨(t.val / 34 + 6) * 1024 + (y 1).val, by have h : (y 1).val < 1024 := (y 1).isLt; have h := t.isLt; have e : cfg0.N = 68 := N_0; omega⟩) := by
  unfold X0_4 Pipeline.Window.fill
  rw [dif_pos (moved0_4 t _)]
  unfold iblk
  generalize V m c = Z
  blk_ext [idx t]

/-- A gate block the body reads is the gate's columns of the projection at the point's rows. -/
theorem gate5 (c : Dev nD) (t : Fin cfg0.N) (y : S512x1024.Idx) : X0_5 m c t y
    = V m c main_arg4 (ix2 ⟨t.val % 34 * 512 + (y 0).val, by have h : (y 0).val < 512 := (y 0).isLt; omega⟩
        ⟨(t.val / 34 + 8) * 1024 + (y 1).val, by have h : (y 1).val < 1024 := (y 1).isLt; have h := t.isLt; have e : cfg0.N = 68 := N_0; omega⟩) := by
  unfold X0_5 Pipeline.Window.fill
  rw [dif_pos (moved0_5 t _)]
  unfold iblk
  generalize V m c = Z
  blk_ext [idx t]

/-- A gate block the body reads is the gate's columns of the projection at the point's rows. -/
theorem gate6 (c : Dev nD) (t : Fin cfg0.N) (y : S512x1024.Idx) : X0_6 m c t y
    = V m c main_arg4 (ix2 ⟨t.val % 34 * 512 + (y 0).val, by have h : (y 0).val < 512 := (y 0).isLt; omega⟩
        ⟨(t.val / 34 + 10) * 1024 + (y 1).val, by have h : (y 1).val < 1024 := (y 1).isLt; have h := t.isLt; have e : cfg0.N = 68 := N_0; omega⟩) := by
  unfold X0_6 Pipeline.Window.fill
  rw [dif_pos (moved0_6 t _)]
  unfold iblk
  generalize V m c = Z
  blk_ext [idx t]

/-- What the body leaves in its output block is the gated sum at the place it is stored. -/
theorem point (c : Dev nD) (t : Fin cfg0.N) (y) :
    outsAt0 m c t y
      = merged (V m c main_arg0) (V m c main_arg1) (V m c main_arg2) (V m c main_v0) (V m c main_arg4) (((cfg0.win 7).blk t).view.emb y) := by
  have e4 := gate4 m c t
  have e5 := gate5 m c t
  have e6 := gate6 m c t
  unfold outsAt0
  frame_out
  unfold iblk at *
  generalize X0_4 m c t = G4 at *
  generalize X0_5 m c t = G5 at *
  generalize X0_6 m c t = G6 at *
  generalize V m c = Z at *
  pointwise [k0_pay1, merged]
  rw [e4, e5, e6]
  clear e4 e5 e6
  blk_point [idx t]

/-- The array the region leaves. -/
theorem final (c : Dev nD) : (dats m 0 c).arrAt 7 (cfgs 0).N
    = merged (m ((c : Thread nD τ).loc main_arg0)) (m ((c : Thread nD τ).loc main_arg1)) (m ((c : Thread nD τ).loc main_arg2))
        (m ((c : Thread nD τ).loc main_arg3)) (m ((c : Thread nD τ).loc main_arg4)) := by
  rw [← V_w m c, ← V_main_arg0 m c, ← V_main_arg1 m c, ← V_main_arg2 m c, ← V_main_arg4 m c]
  refine (dats m 0 c).arrAt_eq_of_covers 7 _ (by decide +kernel) fun t _ y => ?_
  blk_simp
  rw [after0_7]
  exact point m c t y

end Cert.MergeIdeal.Blocks

namespace Cert.MergeRefIdeal.Rows

open Cert.MergeRefIdeal Cert.MergeRefIdeal.Gen Cert.MergeRefIdeal.Read Idealize.ShloMosaic Idealize.ShloMosaic.TcCoe Idealize.SL.Sem
open Cert.MergeIdeal.Blocks

/-- The region's result from the arguments is the reference's. -/
theorem result_eq (x0 x1 x2 : FVec Ideal S17408x1024 .bf16) (x3 : FVec Ideal S3x1024x2048 .f32) (x4 : FVec Ideal S17408x14080 .f32) :
    merged x0 x1 x2 x3 x4 = val_main_v27 (F := Ideal) x0 x1 x2 x3 x4 := by
  funext i
  idx_vars i
  pointwise [merged, Ideal.logistic, val_main_v0, val_main_v1, val_main_v2, val_main_cst, val_main_v3, val_main_v4, val_main_cst_0, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27]
  simp only [show ∀ n : ℕ, 6144 + (2048 + n) = 8192 + n from fun n => by omega,
    show ∀ n : ℕ, 6144 + (4096 + n) = 10240 + n from fun n => by omega]

end Cert.MergeRefIdeal.Rows

namespace Cert.MergeIdeal.Blocks

open Cert.MergeIdeal Cert.MergeIdeal.Gen Idealize.ShloMosaic Idealize.ShloMosaic.TcCoe Idealize.SL.Sem

/-- The merge's result is its reference's. -/
theorem algebraic : Cert.algebraic_MergeIdeal_MergeRefIdeal := by
  intro m g m' g' hpre hagree
  refine ⟨fun c => (dats m 0 c).arrAt 7 (cfgs 0).N, ?_, ?_⟩
  · exact Cert.MergeIdeal.Value.run_blocks m g
  · refine (θ_run _ _ _).mono (fun _ h c => ⟨(h c).1.trans ?_, (h c).2⟩) (Cert.MergeRefIdeal.Value.run m' g')
    obtain ⟨h0, h1, h2, h3, h4⟩ := hagree c
    rw [Cert.MergeRefIdeal.Read.val_main_v27_eq, h0, h1, h2, h3, h4]
    exact ((final m c).trans (Cert.MergeRefIdeal.Rows.result_eq ..)).symm

end Cert.MergeIdeal.Blocks

end
-- ==== Proof.AttSoft.lean ====
module

public import Idealize.ShloMosaic.PureOps.Ideal.Laws
public import Idealize.ShloMosaic.Lib.IdealHost
public import Idealize.ShloMosaic.Lib.Pointwise

@[expose] public section

set_option maxRecDepth 16384

noncomputable section

namespace Cert.Att

open Idealize.ShloMosaic

/-- The largest score: of the window's, of the context's, and the sink. -/
def top (sw : Fin 384 → EReal) (sx : Fin 256 → EReal) (s : EReal) : EReal :=
  max (max (Finset.univ.fold max ⊥ sw) (Finset.univ.fold max ⊥ sx)) s

/-- Attention at one place as the kernel computes it: the weighted sum of the values over the sum of the weights, the
    sink among the weights only. -/
def soft (sw : Fin 384 → EReal) (sx : Fin 256 → EReal) (s : EReal) (vw : Fin 384 → EReal) (vx : Fin 256 → EReal) : EReal :=
  Ideal.div (∑ x, Ideal.exp (sw x - top sw sx s) * vw x + ∑ x, Ideal.exp (sx x - top sw sx s) * vx x)
    (∑ x, Ideal.exp (sw x - top sw sx s) + ∑ x, Ideal.exp (sx x - top sw sx s) + Ideal.exp (s - top sw sx s))

/-- The pattern of minus infinity is the bottom. -/
theorem negInf : Ideal.ofBits .f32 4286578688#32 = ⊥ := by simp [Ideal.ofBits, Ideal.ieee]

/-- The exponential of the bottom is zero. -/
theorem exp_bot : Ideal.exp ⊥ = 0 := rfl
/-- A real number's exponential is real. -/
theorem exp_coe (r : ℝ) : Ideal.exp (r : EReal) = ((Real.exp r : ℝ) : EReal) := rfl

/-- The largest from the bottom is the supremum. -/
theorem fold_eq_sup {n : ℕ} (f : Fin n → EReal) : Finset.univ.fold max ⊥ f = Finset.univ.sup f := rfl

/-- The largest of the 641 laid side by side is the largest of the three parts. -/
theorem fold_parts (z : Fin 641 → EReal) (sw : Fin 384 → EReal) (sx : Fin 256 → EReal) (s : EReal)
    (h1 : ∀ c : Fin 384, z ⟨c.val, by omega⟩ = sw c) (h2 : ∀ c : Fin 256, z ⟨384 + c.val, by omega⟩ = sx c)
    (h3 : z ⟨640, by omega⟩ = s) : max ⊥ (Finset.univ.fold max ⊥ z) = top sw sx s := by
  unfold top
  rw [fold_eq_sup, fold_eq_sup, fold_eq_sup]
  rw [max_eq_right bot_le]
  apply le_antisymm
  · refine Finset.sup_le fun k _ => ?_
    by_cases hk : k.val < 384
    · have e := h1 ⟨k.val, hk⟩
      have : z k = sw ⟨k.val, hk⟩ := e
      rw [this]
      exact le_max_of_le_left (le_max_of_le_left (Finset.le_sup (f := sw) (Finset.mem_univ _)))
    · by_cases hk' : k.val < 640
      · have e := h2 ⟨k.val - 384, by omega⟩
        have e' : (⟨384 + (k.val - 384), by omega⟩ : Fin 641) = k := Fin.ext (by simp only; omega)
        simp only at e
        rw [e'] at e
        rw [e]
        exact le_max_of_le_left (le_max_of_le_right (Finset.le_sup (f := sx) (Finset.mem_univ _)))
      · have e' : (⟨640, by omega⟩ : Fin 641) = k := Fin.ext (by simp only; omega)
        rw [← e', h3]
        exact le_max_right _ _
  · refine max_le (max_le (Finset.sup_le fun c _ => ?_) (Finset.sup_le fun c _ => ?_)) ?_
    · rw [← h1]; exact Finset.le_sup (f := z) (Finset.mem_univ _)
    · rw [← h2]; exact Finset.le_sup (f := z) (Finset.mem_univ _)
    · rw [← h3]; exact Finset.le_sup (f := z) (Finset.mem_univ _)

/-- The sum over the 641 laid side by side is the sum over the three parts. -/
theorem sum_parts (f : Fin 641 → EReal) :
    ∑ k, f k = ∑ c : Fin 384, f ⟨c.val, by omega⟩ + ∑ c : Fin 256, f ⟨384 + c.val, by omega⟩ + f ⟨640, by omega⟩ := by
  have e1 := Fin.sum_univ_add (a := 640) (b := 1) (f := fun i : Fin (640 + 1) => f i)
  have e2 := Fin.sum_univ_add (a := 384) (b := 256) (f := fun i : Fin (384 + 256) => f (Fin.castAdd 1 i))
  refine e1.trans ?_
  refine congrArg₂ (· + ·) (e2.trans ?_) ?_
  · rfl
  · rw [Fin.sum_univ_one]; rfl

/-- A sum of real numbers is real. -/
theorem sum_coe {n : ℕ} (f : Fin n → ℝ) : ∑ c, ((f c : ℝ) : EReal) = ((∑ c, f c : ℝ) : EReal) := by
  induction n with
  | zero => simp
  | succ n ih => rw [Fin.sum_univ_succ, Fin.sum_univ_succ, ih, EReal.coe_add]

/-- A real factor that is not negative goes under a sum. -/
theorem sum_mul_coe {n : ℕ} (f : Fin n → EReal) (r : ℝ) (hr : 0 ≤ r) : (∑ c, f c) * (r : EReal) = ∑ c, f c * (r : EReal) := by
  induction n with
  | zero => simp
  | succ n ih =>
    rw [Fin.sum_univ_succ, Fin.sum_univ_succ, EReal.right_distrib_of_nonneg_of_ne_top (by exact_mod_cast hr) (EReal.coe_ne_top r), ih]

/-- One factor of a weighted sum: the weight taken before or after the division. -/
theorem swap (e d : ℝ) (v : EReal) : (e : EReal) * v * (d : EReal) = v * ((e : EReal) * (d : EReal)) := by
  rw [mul_comm (e : EReal) v, mul_assoc]

/-- The two forms of attention at one place agree: the kernel divides the weighted sum, the reference divides each of the
    641 weights. The window's scores are minus infinity or real, the context's and the sink real; the values need only agree
    where the score is not minus infinity. -/
theorem soft_eq (z : Fin 641 → EReal) (sw : Fin 384 → EReal) (sx : Fin 256 → EReal) (s : EReal)
    (vw vw' : Fin 384 → EReal) (vx : Fin 256 → EReal)
    (h1 : ∀ c : Fin 384, z ⟨c.val, by omega⟩ = sw c) (h2 : ∀ c : Fin 256, z ⟨384 + c.val, by omega⟩ = sx c)
    (h3 : z ⟨640, by omega⟩ = s)
    (hw : ∀ c, sw c = ⊥ ∨ ∃ r : ℝ, sw c = r) (hx : ∀ c, ∃ r : ℝ, sx c = r) (hs : ∃ r : ℝ, s = r)
    (hv : ∀ c, sw c ≠ ⊥ → vw c = vw' c) :
    soft sw sx s vw vx
      = ∑ c : Fin 384, vw' c * Ideal.div (Ideal.exp (z ⟨c.val, by omega⟩ - max ⊥ (Finset.univ.fold max ⊥ z)))
            (0 + ∑ k, Ideal.exp (z k - max ⊥ (Finset.univ.fold max ⊥ z)))
        + ∑ c : Fin 256, vx c * Ideal.div (Ideal.exp (z ⟨384 + c.val, by omega⟩ - max ⊥ (Finset.univ.fold max ⊥ z)))
            (0 + ∑ k, Ideal.exp (z k - max ⊥ (Finset.univ.fold max ⊥ z))) := by
  rw [fold_parts z sw sx s h1 h2 h3, sum_parts, zero_add]
  simp only [h1, h2, h3]
  unfold soft
  have hM : ∃ m : ℝ, top sw sx s = m := by
    obtain ⟨r, hr⟩ := hs
    have hb : top sw sx s ≠ ⊥ := by
      intro e
      have : s ≤ ⊥ := e ▸ le_max_right _ _
      rw [hr] at this
      exact absurd (le_bot_iff.1 this) (EReal.coe_ne_bot r)
    have ht : top sw sx s ≠ ⊤ := by
      refine ne_of_lt (max_lt (max_lt ?_ ?_) ?_)
      · rw [fold_eq_sup, Finset.sup_lt_iff bot_lt_top]
        intro c _
        rcases hw c with e | ⟨r, e⟩
        · rw [e]; exact bot_lt_top
        · rw [e]; exact EReal.coe_lt_top r
      · rw [fold_eq_sup, Finset.sup_lt_iff bot_lt_top]
        intro c _
        obtain ⟨r, e⟩ := hx c
        rw [e]; exact EReal.coe_lt_top r
      · rw [hr]; exact EReal.coe_lt_top r
    exact ⟨(top sw sx s).toReal, (EReal.coe_toReal ht hb).symm⟩
  obtain ⟨m, hm⟩ := hM
  rw [hm]
  have ew : ∀ c, ∃ e : ℝ, Ideal.exp (sw c - (m : EReal)) = (e : EReal) ∧ 0 ≤ e ∧ (sw c = ⊥ → e = 0) := by
    intro c
    rcases hw c with e | ⟨r, e⟩
    · refine ⟨0, ?_, le_refl _, fun _ => rfl⟩
      rw [e, EReal.bot_sub, exp_bot]; rfl
    · refine ⟨Real.exp (r - m), ?_, (Real.exp_pos _).le, fun h => ?_⟩
      · rw [e, ← EReal.coe_sub, exp_coe]
      · rw [h] at e; exact absurd e.symm (EReal.coe_ne_bot r)
  have ex : ∀ c, ∃ e : ℝ, Ideal.exp (sx c - (m : EReal)) = (e : EReal) ∧ 0 ≤ e := by
    intro c
    obtain ⟨r, e⟩ := hx c
    exact ⟨Real.exp (r - m), by rw [e, ← EReal.coe_sub, exp_coe], (Real.exp_pos _).le⟩
  have es : ∃ e : ℝ, Ideal.exp (s - (m : EReal)) = (e : EReal) ∧ 0 < e := by
    obtain ⟨r, e⟩ := hs
    exact ⟨Real.exp (r - m), by rw [e, ← EReal.coe_sub, exp_coe], Real.exp_pos _⟩
  choose fw hfw hfw0 hfwb using ew
  choose fx hfx hfx0 using ex
  obtain ⟨fs, hfs, hfs0⟩ := es
  simp only [hfw, hfx, hfs]
  rw [sum_coe, sum_coe, ← EReal.coe_add, ← EReal.coe_add]
  have hD : 0 < ∑ c, fw c + ∑ c, fx c + fs :=
    add_pos_of_nonneg_of_pos (add_nonneg (Finset.sum_nonneg fun c _ => hfw0 c) (Finset.sum_nonneg fun c _ => hfx0 c)) hfs0
  generalize ∑ c, fw c + ∑ c, fx c + fs = D at hD
  have hD' : 0 ≤ 1 / D := (one_div_pos.2 hD).le
  simp only [Ideal.div_coe hD.ne']
  rw [EReal.right_distrib_of_nonneg_of_ne_top (by exact_mod_cast hD') (EReal.coe_ne_top _), sum_mul_coe _ _ hD', sum_mul_coe _ _ hD']
  refine congrArg₂ (· + ·) (Finset.sum_congr rfl fun c _ => ?_) (Finset.sum_congr rfl fun c _ => swap _ _ _)
  by_cases hb : sw c = ⊥
  · rw [hfwb c hb]; simp
  · rw [hv c hb]; exact swap _ _ _

/-- A product of two reals is real. -/
theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

/-- A sum of reals is real. -/
theorem real_sum {n : ℕ} {f : Fin n → EReal} (h : ∀ c, ∃ r : ℝ, f c = r) : ∃ r : ℝ, ∑ c, f c = r := by
  choose g hg using h
  exact ⟨∑ c, g c, by simp only [hg]; exact sum_coe g⟩

/-- The scale's pattern is a real. -/
theorem real_scale : ∃ r : ℝ, Ideal.ofBits .f32 1035273459#32 = r := by
  refine ⟨_, by simp [Ideal.ofBits, Ideal.ieee, -EReal.coe_mul]; rfl⟩

/-- Whether the query at place `q` of block `n` sees the window's key `k`: within 128 places, and inside the sequence. -/
def valid (n q k : ℕ) : Prop := q ≤ k ∧ k ≤ q + 256 ∧ 128 ≤ n * 128 + k ∧ n * 128 + k < 4224

/-- Whether a key is in the window is decidable. -/
instance (n q k : ℕ) : Decidable (valid n q k) := by unfold valid; infer_instance

/-- The row, in its sequence, of the window's key `k` at block `n`: of the block before, the block itself or the block
    after, the first and the last block standing in for the ones beyond them. -/
def key (n k : ℕ) : ℕ :=
  if k < 128 then (n - 1) * 128 + k else if k < 256 then n * 128 + (k - 128) else min (n + 1) 31 * 128 + (k - 256)

/-- A window key's row lies in the sequence. -/
theorem key_lt (n : Fin 32) (k : Fin 384) : key n.val k.val < 4096 := by
  unfold key
  split_ifs <;> omega

/-- Where the query sees the key, the key's row. -/
theorem key_valid (n : Fin 32) (q k : ℕ) (hv : valid n.val q k) (hk : k < 384) : key n.val k = n.val * 128 + k - 128 := by
  unfold valid at hv
  unfold key
  split_ifs <;> omega

variable (x0 : FVec Ideal ⟨2, ![16384, 1024]⟩ .bf16) (x1 : FVec Ideal ⟨2, ![16384, 256]⟩ .bf16)
  (x2 : FVec Ideal ⟨2, ![17408, 14080]⟩ .f32) (x3 : FVec Ideal ⟨1, ![8]⟩ .f32)

/-- The scores of the window's keys, minus infinity where the query does not see the key. -/
def sw (b : Fin 4) (h : Fin 2) (g : Fin 4) (n : Fin 32) (q : Fin 128) : Fin 384 → EReal := fun k =>
  if valid n.val q.val k.val then
    (∑ x : Fin 128, x0 (ix2 ⟨b.val * 4096 + n.val * 128 + q.val, by omega⟩ ⟨h.val * 512 + g.val * 128 + x.val, by omega⟩)
      * x1 (ix2 ⟨b.val * 4096 + key n.val k.val, by have := key_lt n k; omega⟩ ⟨h.val * 128 + x.val, by omega⟩)) * Ideal.ofBits .f32 1035273459#32
  else ⊥

/-- The scores of the context's keys. -/
def sx (b : Fin 4) (h : Fin 2) (g : Fin 4) (n : Fin 32) (q : Fin 128) : Fin 256 → EReal := fun k =>
  (∑ x : Fin 128, x0 (ix2 ⟨b.val * 4096 + n.val * 128 + q.val, by omega⟩ ⟨h.val * 512 + g.val * 128 + x.val, by omega⟩)
    * x2 (ix2 ⟨16384 + (b.val * 256 + k.val), by omega⟩ ⟨12288 + (h.val * 128 + x.val), by omega⟩)) * Ideal.ofBits .f32 1035273459#32

/-- Attention at one query, head and place: the window's keys, the context's and the sink. -/
def att (b : Fin 4) (h : Fin 2) (g : Fin 4) (n : Fin 32) (q : Fin 128) (d : Fin 128) : EReal :=
  soft (sw x0 x1 b h g n q) (sx x0 x2 b h g n q) (x3 (ix1 ⟨h.val * 4 + g.val, by omega⟩))
    (fun c => x2 (ix2 ⟨b.val * 4096 + key n.val c.val, by have := key_lt n c; omega⟩ ⟨12544 + (h.val * 128 + d.val), by omega⟩))
    (fun c => x2 (ix2 ⟨16384 + (b.val * 256 + c.val), by omega⟩ ⟨12544 + (h.val * 128 + d.val), by omega⟩))

end Cert.Att
end
-- ==== Proof.AttHead.lean ====
module

public import proofs.«01_k».proof.Defs
public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.Tactic.WordOmega
public import proofs.«01_k».proof.Proof.AttSoft

@[expose] public section

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)

/-- A head group's weighted sums, from its scores and values. -/
theorem pay19_at (v41 : FVec Ideal S384x128 .bf16) (v45 : FVec Ideal S256x128 .bf16) (v59 : IVec S512x1 32) (a : BitVec 32) (v61 : IVec S512x1 32) (v68 : IVec S512x1 32) (b : BitVec 32) (c : BitVec 32) (s3 s2 s1 s0 : EReal) (v55 : FVec Ideal S512x384 .f32) (v58 : FVec Ideal S512x256 .f32)
   (r : Fin 512) (d : Fin 128) :
   k0_pay19 v41 v45 (k0_pay14 (F := Ideal) v59 a v61 v68 b c s3 s2 s1 s0) (k0_pay15 v55 v58 v59 a v61 v68 b c s3 s2 s1 s0) (k0_pay16 v55 v58 v59 a v61 v68 b c s3 s2 s1 s0)
    (k0_pay17 v55 v58 v59 a v61 v68 b c s3 s2 s1 s0) (k0_pay18 v55 v58 v59 a v61 v68 b c s3 s2 s1 s0) (ix2 r d)
    = Cert.Att.soft (fun x => v55 (ix2 r x)) (fun x => v58 (ix2 r x)) (k0_pay14 (F := Ideal) v59 a v61 v68 b c s3 s2 s1 s0 (ix2 r 0)) (fun x => v41 (ix2 x d)) (fun x => v45 (ix2 x d)) := by
  unfold Cert.Att.soft Cert.Att.top
  rw [← Cert.Att.negInf]
  pointwise [k0_pay19, k0_pay15, k0_pay16, k0_pay17, k0_pay18]

/-- The sink of the row's head, among the group's four. -/
def sink (s3 s2 s1 s0 : EReal) (w : BitVec 32) : EReal :=
  Scalar.select (IntOp.cmpi .eq w 0#32) s0 (Scalar.select (IntOp.cmpi .eq w 1#32) s1 (Scalar.select (IntOp.cmpi .eq w 2#32) s2 s3))

/-- The same for the second group, whose sinks are chosen in the one step. -/
theorem pay32_at (v148 : FVec Ideal S384x128 .bf16) (v152 : FVec Ideal S256x128 .bf16) (v162 : FVec Ideal S512x384 .f32) (v165 : FVec Ideal S512x256 .f32)
   (v168 : IVec S512x1 32) (v187 : IVec S512x1 1) (c : BitVec 32) (s3 s2 s1 s0 : EReal) (r : Fin 512) (d : Fin 128) :
   k0_pay32 v148 v152 v162 v165 v168 v187 c s3 s2 s1 s0 (ix2 r d)
    = Cert.Att.soft (fun x => v162 (ix2 r x)) (fun x => v165 (ix2 r x))
        (sink s3 s2 s1 s0 (Scalar.select (v187 (ix2 r 0)) (IntOp.subi (v168 (ix2 r 0)) c) (v168 (ix2 r 0)))) (fun x => v148 (ix2 x d)) (fun x => v152 (ix2 x d)) := by
  unfold Cert.Att.soft Cert.Att.top sink
  rw [← Cert.Att.negInf]
  pointwise [k0_pay32]

/-- The rows' head, as the body computes it: the row over 128. -/
theorem head_row : ∀ r : Fin 512, Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (1#32) (Scalar.extui (Scalar.cmpi CmpIPredicate.slt 128#32 0#32))))
        (IntOp.cmpi CmpIPredicate.ne (IntOp.remsi ArithUnit.vector (BitVec.ofNat 32 r.val) 128#32) 0#32))
      (IntOp.subi (IntOp.divsi ArithUnit.vector (BitVec.ofNat 32 r.val) 128#32) 1#32)
      (IntOp.divsi ArithUnit.vector (BitVec.ofNat 32 r.val) 128#32) = BitVec.ofNat 32 (r.val / 128) := by decide +kernel

/-- The first group's sink at a row. -/
theorem pay14_at (s3 s2 s1 s0 : EReal) (r : Fin 512) :
   k0_pay14 (F := Ideal) (iota Kind.tc S512x1 32 [0] iota_S512x1_d0_w32) (128#32) k0_pay12 k0_pay13 (1#32) (0#32) s3 s2 s1 s0 (ix2 r 0)
   = sink s3 s2 s1 s0 (BitVec.ofNat 32 (r.val / 128)) := by
  unfold sink
  pointwise [k0_pay14, k0_pay12, k0_pay13]
  rw [head_row r]

/-- The second group's rows' head. -/
theorem row2 (r : Fin 512) : Scalar.select (k0_pay31 (ix2 r 0)) (IntOp.subi (k0_pay30 (ix2 r 0)) 1#32) (k0_pay30 (ix2 r 0)) = BitVec.ofNat 32 (r.val / 128) := by
  pointwise [k0_pay30, k0_pay31]
  revert r
  decide +kernel

/-- The rows' query, as the body computes it: the row within its head. -/
theorem query_row : ∀ (g : Fin 4) (q : Fin 128), Scalar.select
                (IntOp.andi
                  (IntOp.xori
                    (IntOp.cmpi CmpIPredicate.slt
                      (IntOp.remsi ArithUnit.vector (BitVec.ofNat 32 (g.val * 128 + q.val))
                        (Scalar.select (Scalar.cmpi CmpIPredicate.eq 128#32 0#32) 1#32 128#32))
                      0#32)
                    (Scalar.cmpi CmpIPredicate.slt
                      (Scalar.select (Scalar.cmpi CmpIPredicate.eq 128#32 0#32) 1#32 128#32) 0#32))
                  (IntOp.cmpi CmpIPredicate.ne
                    (IntOp.remsi ArithUnit.vector (BitVec.ofNat 32 (g.val * 128 + q.val))
                      (Scalar.select (Scalar.cmpi CmpIPredicate.eq 128#32 0#32) 1#32 128#32))
                    0#32))
                (IntOp.addi
                  (IntOp.remsi ArithUnit.vector (BitVec.ofNat 32 (g.val * 128 + q.val))
                    (Scalar.select (Scalar.cmpi CmpIPredicate.eq 128#32 0#32) 1#32 128#32))
                  (Scalar.select (Scalar.cmpi CmpIPredicate.eq 128#32 0#32) 1#32 128#32))
                (IntOp.remsi ArithUnit.vector (BitVec.ofNat 32 (g.val * 128 + q.val))
                  (Scalar.select (Scalar.cmpi CmpIPredicate.eq 128#32 0#32) 1#32 128#32)) = BitVec.ofNat 32 q.val := by decide +kernel

/-- The body's mask at a row and a window's key. -/
theorem mask_at (i : grid0.Coords) (g : Fin 4) (q : Fin 128) (k : Fin 384) : k0_pay5 i (ix2 ⟨g.val * 128 + q.val, by omega⟩ k) = 1#1 ↔ Cert.Att.valid (i 1).val q.val k.val := by
  pointwise [k0_pay5]
  rw [query_row g q]
  have hn : (i 1).val < 32 := (i 1).isLt
  generalize (i 1).val = n at hn
  unfold Cert.Att.valid
  simp only [Scalar.cmpi]
  word_omega

end Cert.KernelIdeal.Blocks
end
-- ==== Proof.AttGroup.lean ====
module

public import proofs.«01_k».proof.Defs
public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.Tactic.WordOmega
public import proofs.«01_k».proof.Proof.AttHead

@[expose] public section

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)

/-- Three blocks of rows, one under the other. -/
def lad3 (a b c : (⟨2, ![128, 128]⟩ : Shape).Idx → EReal) (k : Fin 384) (x : Fin 128) : EReal :=
  if h : k.val < 128 then a (ix2 ⟨k.val, h⟩ x)
  else if h : k.val - 128 < 128 then b (ix2 ⟨k.val - 128, h⟩ x)
  else c (ix2 ⟨k.val - 128 - 128, by omega⟩ x)

/-- The queries of the group's four heads, one under the other. -/
theorem pay9_at (q0 q1 q2 q3 : FVec Ideal S128x128 .bf16) (g : Fin 4) (q : Fin 128) (x : Fin 128) :
    k0_pay9 (F := Ideal) q0 q1 q2 q3 (ix2 ⟨g.val * 128 + q.val, by omega⟩ x) = (![q0, q1, q2, q3] : Fin 4 → FVec Ideal S128x128 .bf16) g (ix2 q x) := by
  fin_cases g
  · pointwise [k0_pay9]
  · pointwise [k0_pay9]
  · pointwise [k0_pay9]
    rw [dif_neg (by omega), dif_neg (by omega), dif_pos (by omega)]
    refine congrArg (fun a => q2 (ix2 a x)) (Fin.ext ?_); simp only; omega
  · pointwise [k0_pay9]
    rw [dif_neg (by omega), dif_neg (by omega), dif_neg (by omega)]
    refine congrArg (fun a => q3 (ix2 a x)) (Fin.ext ?_); simp only; omega

/-- The window's scores at a row of one of the first group's heads. -/
theorem pay10_at (M : IVec S512x384 1) (a2 a3 a4 q0 q1 q2 q3 : FVec Ideal S128x128 .bf16) (r : Fin 512) (c : Fin 384) :
    k0_pay10 (F := Ideal) M (k0_pay6 (F := Ideal) a2 a3 a4) q0 q1 q2 q3 (ix2 r c)
      = Scalar.select (M (ix2 r c))
          ((∑ x, k0_pay9 (F := Ideal) q0 q1 q2 q3 (ix2 r x) * lad3 a2 a3 a4 c x) * Ideal.ofBits FTy.f32 1035273459#32) (Ideal.ofBits FTy.f32 4286578688#32) := by
  unfold lad3 k0_pay10
  generalize k0_pay9 (F := Ideal) q0 q1 q2 q3 = Q
  pointwise [k0_pay6]

/-- The context's scores at a row of one of the first group's heads. -/
theorem pay11_at (a8 : FVec Ideal S256x128 .f32) (q0 q1 q2 q3 : FVec Ideal S128x128 .bf16) (r : Fin 512) (c : Fin 256) :
    k0_pay11 (F := Ideal) a8 q0 q1 q2 q3 (ix2 r c)
      = (∑ x, k0_pay9 (F := Ideal) q0 q1 q2 q3 (ix2 r x) * a8 (ix2 c x)) * Ideal.ofBits FTy.f32 1035273459#32 := by
  unfold k0_pay11
  generalize k0_pay9 (F := Ideal) q0 q1 q2 q3 = Q
  pointwise

/-- The window's values. -/
theorem pay7_at (a b c : FVec Ideal S128x128 .f32) (k : Fin 384) (d : Fin 128) : k0_pay7 (F := Ideal) a b c (ix2 k d) = lad3 a b c k d := by
  unfold lad3
  pointwise [k0_pay7]

/-- The context's values. -/
theorem pay8_at (a : FVec Ideal S256x128 .f32) (k : Fin 256) (d : Fin 128) : k0_pay8 (F := Ideal) a (ix2 k d) = a (ix2 k d) := by
  pointwise [k0_pay8]

/-- A head's sink among the group's four. -/
theorem sink_at (s3 s2 s1 s0 : EReal) (g : Fin 4) (q : Fin 128) : sink s3 s2 s1 s0 (BitVec.ofNat 32 ((g.val * 128 + q.val) / 128)) = (![s0, s1, s2, s3] : Fin 4 → EReal) g := by
  rw [show (g.val * 128 + q.val) / 128 = g.val by omega]
  fin_cases g <;> rfl

/-- One head of the group from the loaded blocks: attention with the window's three blocks. -/
def headOf (n : ℕ) (k0 k1 k2 Q : FVec Ideal S128x128 .bf16) (v0 v1 v2 : FVec Ideal S128x128 .f32) (kx vx : FVec Ideal S256x128 .f32) (s : EReal) (q d : Fin 128) : EReal :=
  Cert.Att.soft (fun c => if Cert.Att.valid n q.val c.val then (∑ x, Q (ix2 q x) * lad3 k0 k1 k2 c x) * Ideal.ofBits FTy.f32 1035273459#32 else ⊥)
    (fun c => (∑ x, Q (ix2 q x) * kx (ix2 c x)) * Ideal.ofBits FTy.f32 1035273459#32) s (fun c => lad3 v0 v1 v2 c d) (fun c => vx (ix2 c d))

/-- A masked score. -/
theorem masked (i : grid0.Coords) (g : Fin 4) (q : Fin 128) (c : Fin 384) (z : EReal) :
    Scalar.select (k0_pay5 i (ix2 ⟨g.val * 128 + q.val, by omega⟩ c)) z (Ideal.ofBits FTy.f32 4286578688#32)
      = if Cert.Att.valid (i 1).val q.val c.val then z else ⊥ := by
  rw [Cert.Att.negInf]
  by_cases hv : Cert.Att.valid (i 1).val q.val c.val
  · rw [if_pos hv, (mask_at i g q c).2 hv]; rfl
  · rw [if_neg hv]
    have h1 := mt (mask_at i g q c).1 hv
    generalize k0_pay5 i (ix2 ⟨g.val * 128 + q.val, _⟩ c) = w at h1
    have : w = 0#1 := by revert w; decide
    rw [this]; rfl

/-- The first group's weighted sums, at a row of one of its heads. -/
theorem groupA (i : grid0.Coords) (k0 k1 k2 q0 q1 q2 q3 : FVec Ideal S128x128 .bf16) (v0 v1 v2 : FVec Ideal S128x128 .f32) (kx vx : FVec Ideal S256x128 .f32)
    (s3 s2 s1 s0 : EReal) (g : Fin 4) (q d : Fin 128) :
   k0_pay19 (F := Ideal) (k0_pay7 v0 v1 v2) (k0_pay8 vx) (k0_pay14 (F := Ideal) (iota Kind.tc S512x1 32 [0] iota_S512x1_d0_w32) (128#32) k0_pay12 k0_pay13 (1#32) (0#32) s3 s2 s1 s0)
    (k0_pay15 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0)
    (k0_pay16 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0)
    (k0_pay17 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0)
    (k0_pay18 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0)
    (ix2 ⟨g.val * 128 + q.val, by omega⟩ d)
    = headOf (i 1).val k0 k1 k2 ((![q0, q1, q2, q3] : Fin 4 → FVec Ideal S128x128 .bf16) g) v0 v1 v2 kx vx ((![s0, s1, s2, s3] : Fin 4 → EReal) g) q d := by
  rw [pay19_at, pay14_at, sink_at]
  simp only [pay10_at, pay11_at, pay9_at, pay7_at, pay8_at, masked]
  rfl

/-- The second group's scores and values are the first's functions of its own blocks. -/
theorem pay28_eq (M : IVec S512x384 1) (v : FVec Ideal S384x128 .bf16) (q0 q1 q2 q3 : FVec Ideal S128x128 .bf16) : k0_pay28 (F := Ideal) M v q0 q1 q2 q3 = k0_pay10 M v q0 q1 q2 q3 := rfl
/-- The second group's context scores are computed as the first's. -/
theorem pay29_eq (a : FVec Ideal S256x128 .f32) (q0 q1 q2 q3 : FVec Ideal S128x128 .bf16) : k0_pay29 (F := Ideal) a q0 q1 q2 q3 = k0_pay11 a q0 q1 q2 q3 := rfl
/-- The second group's keys are laid as the first's. -/
theorem pay24_eq (a b c : FVec Ideal S128x128 .bf16) : k0_pay24 (F := Ideal) a b c = k0_pay6 a b c := rfl
/-- The second group's values are laid as the first's. -/
theorem pay25_eq (a b c : FVec Ideal S128x128 .f32) : k0_pay25 (F := Ideal) a b c = k0_pay7 a b c := rfl
/-- The second group's context values are taken as the first's. -/
theorem pay26_eq (a : FVec Ideal S256x128 .f32) : k0_pay26 (F := Ideal) a = k0_pay8 a := rfl

/-- The second group's weighted sums, at a row of one of its heads. -/
theorem groupB (i : grid0.Coords) (k0 k1 k2 q0 q1 q2 q3 : FVec Ideal S128x128 .bf16) (v0 v1 v2 : FVec Ideal S128x128 .f32) (kx vx : FVec Ideal S256x128 .f32)
    (s3 s2 s1 s0 : EReal) (g : Fin 4) (q d : Fin 128) :
   k0_pay32 (F := Ideal) (k0_pay25 v0 v1 v2) (k0_pay26 vx) (k0_pay28 (k0_pay5 i) (k0_pay24 k0 k1 k2) q0 q1 q2 q3) (k0_pay29 kx q0 q1 q2 q3) k0_pay30 k0_pay31 1#32 s3 s2 s1 s0
    (ix2 ⟨g.val * 128 + q.val, by omega⟩ d)
    = headOf (i 1).val k0 k1 k2 ((![q0, q1, q2, q3] : Fin 4 → FVec Ideal S128x128 .bf16) g) v0 v1 v2 kx vx ((![s0, s1, s2, s3] : Fin 4 → EReal) g) q d := by
  rw [pay28_eq, pay29_eq, pay24_eq, pay25_eq, pay26_eq, pay32_at, row2, sink_at]
  simp only [pay10_at, pay11_at, pay9_at, pay7_at, pay8_at, masked]
  rfl

/-- A stored piece is the group's rows of its head. -/
theorem pay20_at (a : FVec Ideal S384x128 .bf16) (b : FVec Ideal S256x128 .bf16) (c d : FVec Ideal S512x1 .f32) (e : FVec Ideal S512x384 .f32) (f : FVec Ideal S512x256 .f32) (h : FVec Ideal S512x1 .f32) (q x : Fin 128) :
    k0_pay20 (F := Ideal) a b c d e f h (ix2 q x) = k0_pay19 (F := Ideal) a b c d e f h (ix2 ⟨(0 : Fin 4).val * 128 + q.val, by omega⟩ x) := by
  unfold k0_pay20
  generalize k0_pay19 (F := Ideal) a b c d e f h = Z
  pointwise
/-- The second head's rows of a group. -/
theorem pay21_at (a : FVec Ideal S384x128 .bf16) (b : FVec Ideal S256x128 .bf16) (c d : FVec Ideal S512x1 .f32) (e : FVec Ideal S512x384 .f32) (f : FVec Ideal S512x256 .f32) (h : FVec Ideal S512x1 .f32) (q x : Fin 128) :
    k0_pay21 (F := Ideal) a b c d e f h (ix2 q x) = k0_pay19 (F := Ideal) a b c d e f h (ix2 ⟨(1 : Fin 4).val * 128 + q.val, by have : (1 : Fin 4).val = 1 := rfl; omega⟩ x) := by
  unfold k0_pay21
  generalize k0_pay19 (F := Ideal) a b c d e f h = Z
  pointwise
/-- The third head's rows of a group. -/
theorem pay22_at (a : FVec Ideal S384x128 .bf16) (b : FVec Ideal S256x128 .bf16) (c d : FVec Ideal S512x1 .f32) (e : FVec Ideal S512x384 .f32) (f : FVec Ideal S512x256 .f32) (h : FVec Ideal S512x1 .f32) (q x : Fin 128) :
    k0_pay22 (F := Ideal) a b c d e f h (ix2 q x) = k0_pay19 (F := Ideal) a b c d e f h (ix2 ⟨(2 : Fin 4).val * 128 + q.val, by have : (2 : Fin 4).val = 2 := rfl; omega⟩ x) := by
  unfold k0_pay22
  generalize k0_pay19 (F := Ideal) a b c d e f h = Z
  pointwise
/-- The fourth head's rows of a group. -/
theorem pay23_at (a : FVec Ideal S384x128 .bf16) (b : FVec Ideal S256x128 .bf16) (c d : FVec Ideal S512x1 .f32) (e : FVec Ideal S512x384 .f32) (f : FVec Ideal S512x256 .f32) (h : FVec Ideal S512x1 .f32) (q x : Fin 128) :
    k0_pay23 (F := Ideal) a b c d e f h (ix2 q x) = k0_pay19 (F := Ideal) a b c d e f h (ix2 ⟨(3 : Fin 4).val * 128 + q.val, by have : (3 : Fin 4).val = 3 := rfl; omega⟩ x) := by
  unfold k0_pay23
  generalize k0_pay19 (F := Ideal) a b c d e f h = Z
  pointwise
/-- The first head's rows of the second group. -/
theorem pay1_at (Z : FVec Ideal S512x128 .f32) (q x : Fin 128) : k0_pay1 (F := Ideal) Z (ix2 q x) = Z (ix2 ⟨(0 : Fin 4).val * 128 + q.val, by omega⟩ x) := by
  pointwise [k0_pay1]
/-- The second head's rows of the second group. -/
theorem pay2_at (Z : FVec Ideal S512x128 .f32) (q x : Fin 128) : k0_pay2 (F := Ideal) Z (ix2 q x) = Z (ix2 ⟨(1 : Fin 4).val * 128 + q.val, by have : (1 : Fin 4).val = 1 := rfl; omega⟩ x) := by
  pointwise [k0_pay2]
/-- The third head's rows of the second group. -/
theorem pay3_at (Z : FVec Ideal S512x128 .f32) (q x : Fin 128) : k0_pay3 (F := Ideal) Z (ix2 q x) = Z (ix2 ⟨(2 : Fin 4).val * 128 + q.val, by have : (2 : Fin 4).val = 2 := rfl; omega⟩ x) := by
  pointwise [k0_pay3]
/-- The fourth head's rows of the second group. -/
theorem pay4_at (Z : FVec Ideal S512x128 .f32) (q x : Fin 128) : k0_pay4 (F := Ideal) Z (ix2 q x) = Z (ix2 ⟨(3 : Fin 4).val * 128 + q.val, by have : (3 : Fin 4).val = 3 := rfl; omega⟩ x) := by
  pointwise [k0_pay4]

end Cert.KernelIdeal.Blocks
end
-- ==== Proof.AttReads.lean ====
module

public import proofs.«01_k».proof.Defs
public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.Tactic.WordOmega
public import proofs.«01_k».proof.Proof.AttGroup

@[expose] public section

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)

/-- Three loaded windows that are blocks of one array, laid side by side, are the array at the clipped rows. -/
theorem lad3_key {A : ℕ → Fin 128 → EReal} (k0 k1 k2 : (⟨2, ![128, 128]⟩ : Shape).Idx → EReal) (n : Fin 32)
    (h0 : ∀ a x, k0 (ix2 a x) = A ((n.val - 1) * 128 + a.val) x) (h1 : ∀ a x, k1 (ix2 a x) = A (n.val * 128 + a.val) x)
    (h2 : ∀ a x, k2 (ix2 a x) = A (min (n.val + 1) 31 * 128 + a.val) x) (c : Fin 384) (x : Fin 128) :
    lad3 k0 k1 k2 c x = A (Cert.Att.key n.val c.val) x := by
  unfold lad3 Cert.Att.key
  by_cases hc : c.val < 128
  · rw [dif_pos hc, if_pos hc, h0]
  · rw [dif_neg hc, if_neg hc]
    by_cases hc' : c.val - 128 < 128
    · rw [dif_pos hc', if_pos (by omega), h1]
    · rw [dif_neg hc', if_neg (by omega), h2]
      rw [show c.val - 256 = c.val - 128 - 128 by omega]

/-- A head's attention from loaded blocks that are the arrays' blocks is the specification's. -/
theorem head_eq (x0 : FVec Ideal ⟨2, ![16384, 1024]⟩ .bf16) (x1 : FVec Ideal ⟨2, ![16384, 256]⟩ .bf16)
    (x2 : FVec Ideal ⟨2, ![17408, 14080]⟩ .f32) (x3 : FVec Ideal ⟨1, ![8]⟩ .f32) (b : Fin 4) (h : Fin 2) (g : Fin 4) (n : Fin 32)
    (k0 k1 k2 Q : FVec Ideal S128x128 .bf16) (v0 v1 v2 : FVec Ideal S128x128 .f32) (kx vx : FVec Ideal S256x128 .f32) (s : EReal)
    (hQ : ∀ q x, Q (ix2 q x) = x0 (ix2 ⟨b.val * 4096 + n.val * 128 + q.val, by omega⟩ ⟨h.val * 512 + g.val * 128 + x.val, by omega⟩))
    (hk0 : ∀ a x, k0 (ix2 a x) = x1 (ix2 ⟨b.val * 4096 + ((n.val - 1) * 128 + a.val), by omega⟩ ⟨h.val * 128 + x.val, by omega⟩))
    (hk1 : ∀ a x, k1 (ix2 a x) = x1 (ix2 ⟨b.val * 4096 + (n.val * 128 + a.val), by omega⟩ ⟨h.val * 128 + x.val, by omega⟩))
    (hk2 : ∀ a x, k2 (ix2 a x) = x1 (ix2 ⟨b.val * 4096 + (min (n.val + 1) 31 * 128 + a.val), by omega⟩ ⟨h.val * 128 + x.val, by omega⟩))
    (hv0 : ∀ a x, v0 (ix2 a x) = x2 (ix2 ⟨b.val * 4096 + ((n.val - 1) * 128 + a.val), by omega⟩ ⟨12544 + (h.val * 128 + x.val), by omega⟩))
    (hv1 : ∀ a x, v1 (ix2 a x) = x2 (ix2 ⟨b.val * 4096 + (n.val * 128 + a.val), by omega⟩ ⟨12544 + (h.val * 128 + x.val), by omega⟩))
    (hv2 : ∀ a x, v2 (ix2 a x) = x2 (ix2 ⟨b.val * 4096 + (min (n.val + 1) 31 * 128 + a.val), by omega⟩ ⟨12544 + (h.val * 128 + x.val), by omega⟩))
    (hkx : ∀ a x, kx (ix2 a x) = x2 (ix2 ⟨16384 + (b.val * 256 + a.val), by omega⟩ ⟨12288 + (h.val * 128 + x.val), by omega⟩))
    (hvx : ∀ a x, vx (ix2 a x) = x2 (ix2 ⟨16384 + (b.val * 256 + a.val), by omega⟩ ⟨12544 + (h.val * 128 + x.val), by omega⟩))
    (hs : s = x3 (ix1 ⟨h.val * 4 + g.val, by omega⟩)) (q d : Fin 128) :
    headOf n.val k0 k1 k2 Q v0 v1 v2 kx vx s q d = Cert.Att.att x0 x1 x2 x3 b h g n q d := by
  have ek := lad3_key (A := fun r x => if hr : r < 4096 then x1 (ix2 ⟨b.val * 4096 + r, by omega⟩ ⟨h.val * 128 + x.val, by omega⟩) else 0) k0 k1 k2 n
    (fun a x => by rw [hk0, dif_pos (show (n.val - 1) * 128 + a.val < 4096 by omega)]) (fun a x => by rw [hk1, dif_pos (show n.val * 128 + a.val < 4096 by omega)]) (fun a x => by rw [hk2, dif_pos (show min (n.val + 1) 31 * 128 + a.val < 4096 by omega)])
  have ev := lad3_key (A := fun r x => if hr : r < 4096 then x2 (ix2 ⟨b.val * 4096 + r, by omega⟩ ⟨12544 + (h.val * 128 + x.val), by omega⟩) else 0) v0 v1 v2 n
    (fun a x => by rw [hv0, dif_pos (show (n.val - 1) * 128 + a.val < 4096 by omega)]) (fun a x => by rw [hv1, dif_pos (show n.val * 128 + a.val < 4096 by omega)]) (fun a x => by rw [hv2, dif_pos (show min (n.val + 1) 31 * 128 + a.val < 4096 by omega)])
  have ek' : ∀ c x, lad3 k0 k1 k2 c x = x1 (ix2 ⟨b.val * 4096 + Cert.Att.key n.val c.val, by have := Cert.Att.key_lt n c; omega⟩ ⟨h.val * 128 + x.val, by omega⟩) :=
    fun c x => (ek c x).trans (dif_pos (Cert.Att.key_lt n c))
  have ev' : ∀ c x, lad3 v0 v1 v2 c x = x2 (ix2 ⟨b.val * 4096 + Cert.Att.key n.val c.val, by have := Cert.Att.key_lt n c; omega⟩ ⟨12544 + (h.val * 128 + x.val), by omega⟩) :=
    fun c x => (ev c x).trans (dif_pos (Cert.Att.key_lt n c))
  unfold headOf Cert.Att.att Cert.Att.sw Cert.Att.sx
  simp only [ek', ev', hQ, hkx, hvx, hs]

/-- The array of the attention: at each index, attention at its query, head and place. -/
def attended (x0 : FVec Ideal S16384x1024 .bf16) (x1 : FVec Ideal S16384x256 .bf16) (x2 : FVec Ideal S17408x14080 .f32) (x3 : FVec Ideal S8 .f32) :
    FVec Ideal S16384x1024 .bf16 := fun i =>
  have h0 : (i 0).val < 16384 := (i 0).isLt
  have h1 : (i 1).val < 1024 := (i 1).isLt
  Cert.Att.att x0 x1 x2 x3 ⟨(i 0).val / 4096, by omega⟩ ⟨(i 1).val / 512, by omega⟩ ⟨(i 1).val / 128 % 4, by omega⟩ ⟨(i 0).val / 128 % 32, by omega⟩
    ⟨(i 0).val % 128, by omega⟩ ⟨(i 1).val % 128, by omega⟩

variable (m : (ℓ : Loc nD τ sig) → Buf (Elt Ideal) ℓ) (ρ : Dev nD → PrngReg)

/-- The block indices of the region's windows, and the point's block. -/
theorem idx : ∀ t : Fin cfg0.N, win0_0.index t = ![0] ∧ win0_1.index t = ![t.val, 0]
    ∧ win0_2.index t = ![t.val / 32 * 32 + (t.val % 32 - 1), 0] ∧ win0_3.index t = ![t.val / 32 * 32 + t.val % 32, 0]
    ∧ win0_4.index t = ![t.val / 32 * 32 + min (t.val % 32 + 1) 31, 0]
    ∧ win0_5.index t = ![t.val / 32 * 32 + (t.val % 32 - 1), 49] ∧ win0_6.index t = ![t.val / 32 * 32 + t.val % 32, 49]
    ∧ win0_7.index t = ![t.val / 32 * 32 + min (t.val % 32 + 1) 31, 49]
    ∧ win0_8.index t = ![64 + t.val / 32, 48] ∧ win0_9.index t = ![64 + t.val / 32, 49] ∧ win0_10.index t = ![t.val, 0] :=
  (by decide +kernel : ∀ t : Fin grid0.N, _)

/-- The second coordinate of a point is its block within the sequence. -/
theorem block_of : ∀ t : Fin grid0.N, (grid0.coords t 1).val = t.val % 32 := by decide +kernel

/-- The region runs 128 points. -/
theorem N_eq : cfg0.N = 128 := N_0

/-- The sinks. -/
theorem in0 (c : Dev nD) (t : Fin cfg0.N) (y : S8.Idx) : iblk m c 0 t y = V m c main_arg3 (ix1 (y 0)) := by
  unfold iblk
  generalize V m c = Z
  blk_ext [idx t]

/-- The queries' block. -/
theorem in1 (c : Dev nD) (t : Fin cfg0.N) (y : S128x1024.Idx) : iblk m c 1 t y
    = V m c main_arg0 (ix2 ⟨t.val * 128 + (y 0).val, by have h : (y 0).val < 128 := (y 0).isLt; have := t.isLt; have := N_eq; omega⟩ (y 1)) := by
  unfold iblk
  generalize V m c = Z
  blk_ext [idx t]

/-- The keys of the block before. -/
theorem in2 (c : Dev nD) (t : Fin cfg0.N) (y : S128x256.Idx) : iblk m c 2 t y
    = V m c main_arg1 (ix2 ⟨t.val / 32 * 4096 + ((t.val % 32 - 1) * 128 + (y 0).val), by have h : (y 0).val < 128 := (y 0).isLt; have := t.isLt; have := N_eq; omega⟩ (y 1)) := by
  unfold iblk
  generalize V m c = Z
  blk_ext [idx t]

/-- The keys of the block itself. -/
theorem in3 (c : Dev nD) (t : Fin cfg0.N) (y : S128x256.Idx) : iblk m c 3 t y
    = V m c main_arg1 (ix2 ⟨t.val / 32 * 4096 + (t.val % 32 * 128 + (y 0).val), by have h : (y 0).val < 128 := (y 0).isLt; have := t.isLt; have := N_eq; omega⟩ (y 1)) := by
  unfold iblk
  generalize V m c = Z
  blk_ext [idx t]

/-- The keys of the block after. -/
theorem in4 (c : Dev nD) (t : Fin cfg0.N) (y : S128x256.Idx) : iblk m c 4 t y
    = V m c main_arg1 (ix2 ⟨t.val / 32 * 4096 + (min (t.val % 32 + 1) 31 * 128 + (y 0).val), by have h : (y 0).val < 128 := (y 0).isLt; have := t.isLt; have := N_eq; omega⟩ (y 1)) := by
  unfold iblk
  generalize V m c = Z
  blk_ext [idx t]

/-- The values of the block before. -/
theorem in5 (c : Dev nD) (t : Fin cfg0.N) (y : S128x256.Idx) : iblk m c 5 t y
    = V m c main_arg2 (ix2 ⟨t.val / 32 * 4096 + ((t.val % 32 - 1) * 128 + (y 0).val), by have h : (y 0).val < 128 := (y 0).isLt; have := t.isLt; have := N_eq; omega⟩ ⟨12544 + (y 1).val, by have h : (y 1).val < 256 := (y 1).isLt; omega⟩) := by
  unfold iblk
  generalize V m c = Z
  blk_ext [idx t]

/-- The values of the block itself. -/
theorem in6 (c : Dev nD) (t : Fin cfg0.N) (y : S128x256.Idx) : iblk m c 6 t y
    = V m c main_arg2 (ix2 ⟨t.val / 32 * 4096 + (t.val % 32 * 128 + (y 0).val), by have h : (y 0).val < 128 := (y 0).isLt; have := t.isLt; have := N_eq; omega⟩ ⟨12544 + (y 1).val, by have h : (y 1).val < 256 := (y 1).isLt; omega⟩) := by
  unfold iblk
  generalize V m c = Z
  blk_ext [idx t]

/-- The values of the block after. -/
theorem in7 (c : Dev nD) (t : Fin cfg0.N) (y : S128x256.Idx) : iblk m c 7 t y
    = V m c main_arg2 (ix2 ⟨t.val / 32 * 4096 + (min (t.val % 32 + 1) 31 * 128 + (y 0).val), by have h : (y 0).val < 128 := (y 0).isLt; have := t.isLt; have := N_eq; omega⟩ ⟨12544 + (y 1).val, by have h : (y 1).val < 256 := (y 1).isLt; omega⟩) := by
  unfold iblk
  generalize V m c = Z
  blk_ext [idx t]

/-- The context's keys. -/
theorem in8 (c : Dev nD) (t : Fin cfg0.N) (y : S256x256.Idx) : iblk m c 8 t y
    = V m c main_arg2 (ix2 ⟨16384 + (t.val / 32 * 256 + (y 0).val), by have h : (y 0).val < 256 := (y 0).isLt; have := t.isLt; have := N_eq; omega⟩ ⟨12288 + (y 1).val, by have h : (y 1).val < 256 := (y 1).isLt; omega⟩) := by
  unfold iblk
  generalize V m c = Z
  blk_ext [idx t]

/-- The context's values. -/
theorem in9 (c : Dev nD) (t : Fin cfg0.N) (y : S256x256.Idx) : iblk m c 9 t y
    = V m c main_arg2 (ix2 ⟨16384 + (t.val / 32 * 256 + (y 0).val), by have h : (y 0).val < 256 := (y 0).isLt; have := t.isLt; have := N_eq; omega⟩ ⟨12544 + (y 1).val, by have h : (y 1).val < 256 := (y 1).isLt; omega⟩) := by
  unfold iblk
  generalize V m c = Z
  blk_ext [idx t]

/-- The first group's head 0, as it is stored. -/
theorem pieceA0 (i : grid0.Coords) (k0 k1 k2 q0 q1 q2 q3 : FVec Ideal S128x128 .bf16) (v0 v1 v2 : FVec Ideal S128x128 .f32) (kx vx : FVec Ideal S256x128 .f32)
    (s3 s2 s1 s0 : EReal) (q d : Fin 128) :
   k0_pay20 (F := Ideal) (k0_pay7 v0 v1 v2) (k0_pay8 vx) (k0_pay14 (F := Ideal) (iota Kind.tc S512x1 32 [0] iota_S512x1_d0_w32) (128#32) k0_pay12 k0_pay13 (1#32) (0#32) s3 s2 s1 s0)
    (k0_pay15 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (k0_pay16 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (k0_pay17 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (k0_pay18 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (ix2 q d)
    = headOf (i 1).val k0 k1 k2 q0 v0 v1 v2 kx vx s0 q d :=
  (pay20_at _ _ _ _ _ _ _ q d).trans (groupA i k0 k1 k2 q0 q1 q2 q3 v0 v1 v2 kx vx s3 s2 s1 s0 0 q d)

/-- The first group's head 1, as it is stored. -/
theorem pieceA1 (i : grid0.Coords) (k0 k1 k2 q0 q1 q2 q3 : FVec Ideal S128x128 .bf16) (v0 v1 v2 : FVec Ideal S128x128 .f32) (kx vx : FVec Ideal S256x128 .f32)
    (s3 s2 s1 s0 : EReal) (q d : Fin 128) :
   k0_pay21 (F := Ideal) (k0_pay7 v0 v1 v2) (k0_pay8 vx) (k0_pay14 (F := Ideal) (iota Kind.tc S512x1 32 [0] iota_S512x1_d0_w32) (128#32) k0_pay12 k0_pay13 (1#32) (0#32) s3 s2 s1 s0)
    (k0_pay15 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (k0_pay16 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (k0_pay17 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (k0_pay18 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (ix2 q d)
    = headOf (i 1).val k0 k1 k2 q1 v0 v1 v2 kx vx s1 q d :=
  (pay21_at _ _ _ _ _ _ _ q d).trans (groupA i k0 k1 k2 q0 q1 q2 q3 v0 v1 v2 kx vx s3 s2 s1 s0 1 q d)

/-- The first group's head 2, as it is stored. -/
theorem pieceA2 (i : grid0.Coords) (k0 k1 k2 q0 q1 q2 q3 : FVec Ideal S128x128 .bf16) (v0 v1 v2 : FVec Ideal S128x128 .f32) (kx vx : FVec Ideal S256x128 .f32)
    (s3 s2 s1 s0 : EReal) (q d : Fin 128) :
   k0_pay22 (F := Ideal) (k0_pay7 v0 v1 v2) (k0_pay8 vx) (k0_pay14 (F := Ideal) (iota Kind.tc S512x1 32 [0] iota_S512x1_d0_w32) (128#32) k0_pay12 k0_pay13 (1#32) (0#32) s3 s2 s1 s0)
    (k0_pay15 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (k0_pay16 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (k0_pay17 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (k0_pay18 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (ix2 q d)
    = headOf (i 1).val k0 k1 k2 q2 v0 v1 v2 kx vx s2 q d :=
  (pay22_at _ _ _ _ _ _ _ q d).trans (groupA i k0 k1 k2 q0 q1 q2 q3 v0 v1 v2 kx vx s3 s2 s1 s0 2 q d)

/-- The first group's head 3, as it is stored. -/
theorem pieceA3 (i : grid0.Coords) (k0 k1 k2 q0 q1 q2 q3 : FVec Ideal S128x128 .bf16) (v0 v1 v2 : FVec Ideal S128x128 .f32) (kx vx : FVec Ideal S256x128 .f32)
    (s3 s2 s1 s0 : EReal) (q d : Fin 128) :
   k0_pay23 (F := Ideal) (k0_pay7 v0 v1 v2) (k0_pay8 vx) (k0_pay14 (F := Ideal) (iota Kind.tc S512x1 32 [0] iota_S512x1_d0_w32) (128#32) k0_pay12 k0_pay13 (1#32) (0#32) s3 s2 s1 s0)
    (k0_pay15 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (k0_pay16 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (k0_pay17 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (k0_pay18 (k0_pay10 (k0_pay5 i) (k0_pay6 k0 k1 k2) q0 q1 q2 q3) (k0_pay11 kx q0 q1 q2 q3) (iota Kind.tc S512x1 32 [0] iota_S512x1_d0_w32) (128#32) k0_pay12 k0_pay13 (1#32) (0#32) s3 s2 s1 s0) (ix2 q d)
    = headOf (i 1).val k0 k1 k2 q3 v0 v1 v2 kx vx s3 q d :=
  (pay23_at _ _ _ _ _ _ _ q d).trans (groupA i k0 k1 k2 q0 q1 q2 q3 v0 v1 v2 kx vx s3 s2 s1 s0 3 q d)

/-- The second group's head 0, as it is stored. -/
theorem pieceB0 (i : grid0.Coords) (k0 k1 k2 q0 q1 q2 q3 : FVec Ideal S128x128 .bf16) (v0 v1 v2 : FVec Ideal S128x128 .f32) (kx vx : FVec Ideal S256x128 .f32)
    (s3 s2 s1 s0 : EReal) (q d : Fin 128) :
   k0_pay1 (F := Ideal) (k0_pay32 (F := Ideal) (k0_pay25 v0 v1 v2) (k0_pay26 vx) (k0_pay28 (k0_pay5 i) (k0_pay24 k0 k1 k2) q0 q1 q2 q3) (k0_pay29 kx q0 q1 q2 q3) k0_pay30 k0_pay31 1#32 s3 s2 s1 s0) (ix2 q d)
    = headOf (i 1).val k0 k1 k2 q0 v0 v1 v2 kx vx s0 q d :=
  (pay1_at _ q d).trans (groupB i k0 k1 k2 q0 q1 q2 q3 v0 v1 v2 kx vx s3 s2 s1 s0 0 q d)

/-- The second group's head 1, as it is stored. -/
theorem pieceB1 (i : grid0.Coords) (k0 k1 k2 q0 q1 q2 q3 : FVec Ideal S128x128 .bf16) (v0 v1 v2 : FVec Ideal S128x128 .f32) (kx vx : FVec Ideal S256x128 .f32)
    (s3 s2 s1 s0 : EReal) (q d : Fin 128) :
   k0_pay2 (F := Ideal) (k0_pay32 (F := Ideal) (k0_pay25 v0 v1 v2) (k0_pay26 vx) (k0_pay28 (k0_pay5 i) (k0_pay24 k0 k1 k2) q0 q1 q2 q3) (k0_pay29 kx q0 q1 q2 q3) k0_pay30 k0_pay31 1#32 s3 s2 s1 s0) (ix2 q d)
    = headOf (i 1).val k0 k1 k2 q1 v0 v1 v2 kx vx s1 q d :=
  (pay2_at _ q d).trans (groupB i k0 k1 k2 q0 q1 q2 q3 v0 v1 v2 kx vx s3 s2 s1 s0 1 q d)

/-- The second group's head 2, as it is stored. -/
theorem pieceB2 (i : grid0.Coords) (k0 k1 k2 q0 q1 q2 q3 : FVec Ideal S128x128 .bf16) (v0 v1 v2 : FVec Ideal S128x128 .f32) (kx vx : FVec Ideal S256x128 .f32)
    (s3 s2 s1 s0 : EReal) (q d : Fin 128) :
   k0_pay3 (F := Ideal) (k0_pay32 (F := Ideal) (k0_pay25 v0 v1 v2) (k0_pay26 vx) (k0_pay28 (k0_pay5 i) (k0_pay24 k0 k1 k2) q0 q1 q2 q3) (k0_pay29 kx q0 q1 q2 q3) k0_pay30 k0_pay31 1#32 s3 s2 s1 s0) (ix2 q d)
    = headOf (i 1).val k0 k1 k2 q2 v0 v1 v2 kx vx s2 q d :=
  (pay3_at _ q d).trans (groupB i k0 k1 k2 q0 q1 q2 q3 v0 v1 v2 kx vx s3 s2 s1 s0 2 q d)

/-- The second group's head 3, as it is stored. -/
theorem pieceB3 (i : grid0.Coords) (k0 k1 k2 q0 q1 q2 q3 : FVec Ideal S128x128 .bf16) (v0 v1 v2 : FVec Ideal S128x128 .f32) (kx vx : FVec Ideal S256x128 .f32)
    (s3 s2 s1 s0 : EReal) (q d : Fin 128) :
   k0_pay4 (F := Ideal) (k0_pay32 (F := Ideal) (k0_pay25 v0 v1 v2) (k0_pay26 vx) (k0_pay28 (k0_pay5 i) (k0_pay24 k0 k1 k2) q0 q1 q2 q3) (k0_pay29 kx q0 q1 q2 q3) k0_pay30 k0_pay31 1#32 s3 s2 s1 s0) (ix2 q d)
    = headOf (i 1).val k0 k1 k2 q3 v0 v1 v2 kx vx s3 q d :=
  (pay4_at _ q d).trans (groupB i k0 k1 k2 q0 q1 q2 q3 v0 v1 v2 kx vx s3 s2 s1 s0 3 q d)

/-- Attention at equal coordinates. -/
theorem att_congr (x0 : FVec Ideal ⟨2, ![16384, 1024]⟩ .bf16) (x1 : FVec Ideal ⟨2, ![16384, 256]⟩ .bf16)
    (x2 : FVec Ideal ⟨2, ![17408, 14080]⟩ .f32) (x3 : FVec Ideal ⟨1, ![8]⟩ .f32) {b b' : Fin 4} {h h' : Fin 2} {g g' : Fin 4} {n n' : Fin 32} {q q' d d' : Fin 128}
    (hb : b.val = b'.val) (hh : h.val = h'.val) (hg : g.val = g'.val) (hn : n.val = n'.val) (hq : q.val = q'.val) (hd : d.val = d'.val) :
    Cert.Att.att x0 x1 x2 x3 b h g n q d = Cert.Att.att x0 x1 x2 x3 b' h' g' n' q' d' := by
  obtain rfl := Fin.ext hb; obtain rfl := Fin.ext hh; obtain rfl := Fin.ext hg; obtain rfl := Fin.ext hn; obtain rfl := Fin.ext hq; obtain rfl := Fin.ext hd
  rfl

end Cert.KernelIdeal.Blocks
end
-- ==== Proof.AttPoint.lean ====
module

public import proofs.«01_k».proof.Defs
public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.Tactic.WordOmega
public import proofs.«01_k».proof.Proof.AttReads

@[expose] public section

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)

/-- A head of a point's output block is attention at the place it is stored, when the loaded blocks are the arrays'. -/
theorem head_at (x0 : FVec Ideal ⟨2, ![16384, 1024]⟩ .bf16) (x1 : FVec Ideal ⟨2, ![16384, 256]⟩ .bf16)
    (x2 : FVec Ideal ⟨2, ![17408, 14080]⟩ .f32) (x3 : FVec Ideal ⟨1, ![8]⟩ .f32) (t : Fin cfg0.N) (y0 : Fin 128) (y1 : Fin 1024) (h : Fin 2) (g : Fin 4)
    (k0 k1 k2 Q : FVec Ideal S128x128 .bf16) (v0 v1 v2 : FVec Ideal S128x128 .f32) (kx vx : FVec Ideal S256x128 .f32) (s : EReal)
    (hQ : ∀ q x, Q (ix2 q x) = x0 (ix2 ⟨(t.val / 32) * 4096 + (t.val % 32) * 128 + q.val, by have := t.isLt; have := N_eq; omega⟩ ⟨h.val * 512 + g.val * 128 + x.val, by have := t.isLt; have := N_eq; omega⟩))
    (hk0 : ∀ a x, k0 (ix2 a x) = x1 (ix2 ⟨(t.val / 32) * 4096 + (((t.val % 32) - 1) * 128 + a.val), by have := t.isLt; have := N_eq; omega⟩ ⟨h.val * 128 + x.val, by have := t.isLt; have := N_eq; omega⟩))
    (hk1 : ∀ a x, k1 (ix2 a x) = x1 (ix2 ⟨(t.val / 32) * 4096 + ((t.val % 32) * 128 + a.val), by have := t.isLt; have := N_eq; omega⟩ ⟨h.val * 128 + x.val, by have := t.isLt; have := N_eq; omega⟩))
    (hk2 : ∀ a x, k2 (ix2 a x) = x1 (ix2 ⟨(t.val / 32) * 4096 + (min ((t.val % 32) + 1) 31 * 128 + a.val), by have := t.isLt; have := N_eq; omega⟩ ⟨h.val * 128 + x.val, by have := t.isLt; have := N_eq; omega⟩))
    (hv0 : ∀ a x, v0 (ix2 a x) = x2 (ix2 ⟨(t.val / 32) * 4096 + (((t.val % 32) - 1) * 128 + a.val), by have := t.isLt; have := N_eq; omega⟩ ⟨12544 + (h.val * 128 + x.val), by have := t.isLt; have := N_eq; omega⟩))
    (hv1 : ∀ a x, v1 (ix2 a x) = x2 (ix2 ⟨(t.val / 32) * 4096 + ((t.val % 32) * 128 + a.val), by have := t.isLt; have := N_eq; omega⟩ ⟨12544 + (h.val * 128 + x.val), by have := t.isLt; have := N_eq; omega⟩))
    (hv2 : ∀ a x, v2 (ix2 a x) = x2 (ix2 ⟨(t.val / 32) * 4096 + (min ((t.val % 32) + 1) 31 * 128 + a.val), by have := t.isLt; have := N_eq; omega⟩ ⟨12544 + (h.val * 128 + x.val), by have := t.isLt; have := N_eq; omega⟩))
    (hkx : ∀ a x, kx (ix2 a x) = x2 (ix2 ⟨16384 + ((t.val / 32) * 256 + a.val), by have := t.isLt; have := N_eq; omega⟩ ⟨12288 + (h.val * 128 + x.val), by have := t.isLt; have := N_eq; omega⟩))
    (hvx : ∀ a x, vx (ix2 a x) = x2 (ix2 ⟨16384 + ((t.val / 32) * 256 + a.val), by have := t.isLt; have := N_eq; omega⟩ ⟨12544 + (h.val * 128 + x.val), by have := t.isLt; have := N_eq; omega⟩))
    (hs : s = x3 (ix1 ⟨h.val * 4 + g.val, by have := t.isLt; have := N_eq; omega⟩)) (q d : Fin 128)
    (e0 : y0.val = q.val) (e1 : y1.val = h.val * 512 + g.val * 128 + d.val) :
    headOf (grid0.coords t 1).val k0 k1 k2 Q v0 v1 v2 kx vx s q d
      = Cert.Att.att x0 x1 x2 x3 ⟨t.val / 32, by have := t.isLt; have := N_eq; omega⟩ ⟨y1.val / 512, by omega⟩ ⟨y1.val / 128 % 4, by omega⟩ ⟨t.val % 32, by omega⟩ ⟨y0.val, by omega⟩ ⟨y1.val % 128, by omega⟩ := by
  rw [block_of t]
  refine (head_eq x0 x1 x2 x3 ⟨t.val / 32, by have := t.isLt; have := N_eq; omega⟩ h g ⟨t.val % 32, by omega⟩ k0 k1 k2 Q v0 v1 v2 kx vx s hQ hk0 hk1 hk2 hv0 hv1 hv2 hkx hvx hs q d).trans
    (att_congr _ _ _ _ rfl ?_ ?_ rfl e0.symm ?_)
  · show h.val = y1.val / 512; omega
  · show g.val = y1.val / 128 % 4; omega
  · show d.val = y1.val % 128; omega

variable (m : (ℓ : Loc nD τ sig) → Buf (Elt Ideal) ℓ) (ρ : Dev nD → PrngReg)

/-- What the body leaves in its output block is attention at the place it is stored. -/
theorem point (c : Dev nD) (t : Fin cfg0.N) (y : S128x1024.Idx) :
    outsAt0 m c t y = attended (V m c main_arg0) (V m c main_arg1) (V m c main_arg2) (V m c main_arg3) (((cfg0.win 10).blk t).view.emb y) := by
  have ht : t.val < 128 := lt_of_lt_of_eq t.isLt N_eq
  have hy0 : (y 0).val < 128 := (y 0).isLt
  have hy1 : (y 1).val < 1024 := (y 1).isLt
  have e : attended (V m c main_arg0) (V m c main_arg1) (V m c main_arg2) (V m c main_arg3) (((cfg0.win 10).blk t).view.emb y)
      = Cert.Att.att (V m c main_arg0) (V m c main_arg1) (V m c main_arg2) (V m c main_arg3) ⟨t.val / 32, by omega⟩ ⟨(y 1).val / 512, by omega⟩ ⟨(y 1).val / 128 % 4, by omega⟩
          ⟨t.val % 32, by omega⟩ ⟨(y 0).val, hy0⟩ ⟨(y 1).val % 128, by omega⟩ := by
    unfold attended
    refine att_congr _ _ _ _ ?_ ?_ ?_ ?_ ?_ ?_
    all_goals (blk_simp [idx t] <;> try omega)
    · show (t.val * 128 + (y 0).val) / 4096 = t.val / 32; omega
    · show (t.val * 128 + (y 0).val) / 128 % 32 = t.val % 32; omega
    · show (t.val * 128 + (y 0).val) % 128 = (y 0).val; omega
  rw [e]
  clear e
  unfold outsAt0
  frame_out
  canon_tiles x h
  all_goals idx_vars x
  on_goal 8 => refine (pieceA0 _ _ _ _ _ _ _ _ _ _ _ _ _ _ _ _ _ _ _).trans (head_at _ _ _ _ t _ _ 0 0 _ _ _ _ _ _ _ _ _ _ ?_ ?_ ?_ ?_ ?_ ?_ ?_ ?_ ?_ ?_ _ _ h0 (h1.trans ?_))
  on_goal 7 => refine (pieceA1 _ _ _ _ _ _ _ _ _ _ _ _ _ _ _ _ _ _ _).trans (head_at _ _ _ _ t _ _ 0 1 _ _ _ _ _ _ _ _ _ _ ?_ ?_ ?_ ?_ ?_ ?_ ?_ ?_ ?_ ?_ _ _ h0 (h1.trans ?_))
  on_goal 6 => refine (pieceA2 _ _ _ _ _ _ _ _ _ _ _ _ _ _ _ _ _ _ _).trans (head_at _ _ _ _ t _ _ 0 2 _ _ _ _ _ _ _ _ _ _ ?_ ?_ ?_ ?_ ?_ ?_ ?_ ?_ ?_ ?_ _ _ h0 (h1.trans ?_))
  on_goal 5 => refine (pieceA3 _ _ _ _ _ _ _ _ _ _ _ _ _ _ _ _ _ _ _).trans (head_at _ _ _ _ t _ _ 0 3 _ _ _ _ _ _ _ _ _ _ ?_ ?_ ?_ ?_ ?_ ?_ ?_ ?_ ?_ ?_ _ _ h0 (h1.trans ?_))
  on_goal 4 => refine (pieceB0 _ _ _ _ _ _ _ _ _ _ _ _ _ _ _ _ _ _ _).trans (head_at _ _ _ _ t _ _ 1 0 _ _ _ _ _ _ _ _ _ _ ?_ ?_ ?_ ?_ ?_ ?_ ?_ ?_ ?_ ?_ _ _ h0 (h1.trans ?_))
  on_goal 3 => refine (pieceB1 _ _ _ _ _ _ _ _ _ _ _ _ _ _ _ _ _ _ _).trans (head_at _ _ _ _ t _ _ 1 1 _ _ _ _ _ _ _ _ _ _ ?_ ?_ ?_ ?_ ?_ ?_ ?_ ?_ ?_ ?_ _ _ h0 (h1.trans ?_))
  on_goal 2 => refine (pieceB2 _ _ _ _ _ _ _ _ _ _ _ _ _ _ _ _ _ _ _).trans (head_at _ _ _ _ t _ _ 1 2 _ _ _ _ _ _ _ _ _ _ ?_ ?_ ?_ ?_ ?_ ?_ ?_ ?_ ?_ ?_ _ _ h0 (h1.trans ?_))
  on_goal 1 => refine (pieceB3 _ _ _ _ _ _ _ _ _ _ _ _ _ _ _ _ _ _ _).trans (head_at _ _ _ _ t _ _ 1 3 _ _ _ _ _ _ _ _ _ _ ?_ ?_ ?_ ?_ ?_ ?_ ?_ ?_ ?_ ?_ _ _ h0 (h1.trans ?_))
  all_goals first
    | (intro a x; pointwise; first | rw [in1] | rw [in2] | rw [in3] | rw [in4] | rw [in5] | rw [in6] | rw [in7] | rw [in8] | rw [in9]
       blk_ext)
    | (pointwise; rw [in0]; blk_ext)
    | rfl
    | omega

end Cert.KernelIdeal.Blocks
end
-- ==== Proof.AttRef.lean ====
module

public import proofs.«01_k».proof.Defs
public import proofs.«01_k».proof.Proof.Gen.ReferenceIdeal.Run
public import proofs.«01_k».proof.Proof.Gen.ReferenceIdeal.Read
public import proofs.«01_k».proof.Proof.AttSoft
public import Idealize.ShloMosaic.Lib.Pipeline.ValueKit
public import Idealize.ShloMosaic.Lib.Pointwise
public import Idealize.ShloMosaic.Lib.Claim
public import Idealize.ShloMosaic.Lib.Tactic.WordOmega

@[expose] public section

set_option maxRecDepth 16384

noncomputable section

namespace Cert.ReferenceIdeal.Rows

open Cert.ReferenceIdeal Cert.ReferenceIdeal.Gen Cert.ReferenceIdeal.Read Idealize.ShloMosaic Idealize.ShloMosaic.TcCoe Idealize.SL.Sem

variable (x0 : FVec Ideal S16384x1024 .bf16) (x1 : FVec Ideal S16384x256 .bf16) (x2 : FVec Ideal S17408x14080 .f32) (x3 : FVec Ideal S8 .f32)

/-- A signed word's absolute value is at most 128 exactly when the word lies within 128 of zero. -/
theorem absi_le (w : BitVec 32) : (IntOp.cmpi .sle (IntOp.absi w) 128#32 = 1#1) ↔ (w.toNat ≤ 128 ∨ 2 ^ 32 - 128 ≤ w.toNat ∨ w.toNat = 2^31) := by
  unfold IntOp.absi
  rw [BitVec.msb_eq_decide]
  have hw := w.isLt
  by_cases hm : 2 ^ (32 - 1) ≤ w.toNat
  · rw [if_pos (by simpa using hm)]
    have e : (-w).toNat = 2 ^ 32 - w.toNat := by rw [BitVec.toNat_neg]; omega
    generalize -w = u at e
    word_omega
  · rw [if_neg (by simpa using hm)]
    word_omega

/-- The reference's mask, at a query and a window's key. -/
theorem mask_iff (n : Fin 32) (q : Fin 128) (k : Fin 384) : (val_main_v53 (F := Ideal) (ix3 n q k) = 1#1) ↔ Cert.Att.valid n.val q.val k.val := by
  pointwise [val_main_v53, val_main_v52, val_main_v51, val_main_v50, val_main_c_5, val_main_v49, val_main_v48, val_main_v47, val_main_v46, val_main_c_4, val_main_v45, val_main_v44, val_main_c_3, val_main_v43, val_main_v42, val_main_v41, val_main_v40, val_main_v39, val_main_v38, val_main_v37, val_main_v36, val_main_v35, val_main_v34, val_main_v33, val_main_c_2, val_main_v32, val_main_v31, val_main_v30, val_main_v29, val_main_v28, val_main_v27, val_main_v26, val_main_c_1, val_main_v25, val_main_v24]
  rw [IntOp.andi_eq_one, IntOp.andi_eq_one, absi_le]
  unfold IntOp.subi IntOp.muli IntOp.addi
  simp only [BitVec.toNat_sub, BitVec.toNat_mul, BitVec.toNat_add, BitVec.toNat_ofNat, WordCmp.cmpi_sge_zero]
  unfold Cert.Att.valid
  word_omega

/-- The last of six axes is reduced. -/
theorem red6 : (S4x2x4x32x128x641 : Shape).Reduces [5] S4x2x4x32x128 := by decide

/-- The index a reduced entry reads at a place of the last axis. -/
theorem lift6 (b : Fin 4) (h : Fin 2) (g : Fin 4) (n : Fin 32) (q : Fin 128) (k : Fin 641) :
    red6.lift (ix5 b h g n q) k = ix6 b h g n q k := by
  funext a
  match a with
  | ⟨0, _⟩ => rfl
  | ⟨1, _⟩ => rfl
  | ⟨2, _⟩ => rfl
  | ⟨3, _⟩ => rfl
  | ⟨4, _⟩ => rfl
  | ⟨5, _⟩ => rfl

/-- The row's largest score, over the 641 laid side by side. -/
theorem v66_at (b : Fin 4) (h : Fin 2) (g : Fin 4) (n : Fin 32) (q : Fin 128) :
    val_main_v66 (F := Ideal) x0 x1 x2 x3 (ix5 b h g n q) = Finset.univ.fold max ⊥ fun k : Fin 641 => val_main_v65 (F := Ideal) x0 x1 x2 x3 (ix6 b h g n q k) := by
  unfold val_main_v66
  generalize val_main_v65 (F := Ideal) x0 x1 x2 x3 = Z
  refine (Host.reduce_eq_fold_single (α := EReal) max Z _ _ red6 _ (ix5 b h g n q)).trans ?_
  have e : (Z ∘ red6.lift (ix5 b h g n q)) = fun k : Fin 641 => Z (ix6 b h g n q k) := funext fun k => congrArg Z (lift6 b h g n q k)
  rw [e]
  exact congrArg (fun i => Finset.univ.fold max i fun k : Fin 641 => Z (ix6 b h g n q k)) Cert.Att.negInf

/-- The row's largest score, from minus infinity once more. -/
theorem v68_at (j : S4x2x4x32x128.Idx) :
    val_main_v68 (F := Ideal) x0 x1 x2 x3 j = max ⊥ (val_main_v66 (F := Ideal) x0 x1 x2 x3 j) := by
  have e := val_main_v68_apply (F := Ideal) x0 x1 x2 x3 j
  have e9 : val_main_cst_9 (F := Ideal) ix0 = ⊥ := by
    unfold val_main_cst_9
    exact Cert.Att.negInf
  have e7 : val_main_v67 (F := Ideal) j = val_main_cst_9 (F := Ideal) ix0 := by
    unfold val_main_v67
    generalize val_main_cst_9 (F := Ideal) = Z
    exact Idealize.ShloMosaic.ValueIdx.broadcastInDim_scalar_apply _ Z j
  rw [e, Ideal.maximumf_def, e7, e9]

/-- The row's largest score, spread over the row. -/
theorem v70_at (b : Fin 4) (h : Fin 2) (g : Fin 4) (n : Fin 32) (q : Fin 128) (k : Fin 641) :
    val_main_v70 (F := Ideal) x0 x1 x2 x3 (ix6 b h g n q k) = val_main_v68 (F := Ideal) x0 x1 x2 x3 (ix5 b h g n q) := by
  unfold val_main_v70 val_main_v69
  generalize val_main_v68 (F := Ideal) x0 x1 x2 x3 = Z
  pointwise

/-- A weight before it is divided. -/
theorem v72_at (b : Fin 4) (h : Fin 2) (g : Fin 4) (n : Fin 32) (q : Fin 128) (k : Fin 641) :
    val_main_v72 (F := Ideal) x0 x1 x2 x3 (ix6 b h g n q k)
      = Ideal.exp (val_main_v65 (F := Ideal) x0 x1 x2 x3 (ix6 b h g n q k)
          - max ⊥ (Finset.univ.fold max ⊥ fun k : Fin 641 => val_main_v65 (F := Ideal) x0 x1 x2 x3 (ix6 b h g n q k))) := by
  rw [← v66_at, ← v68_at, ← v70_at x0 x1 x2 x3 b h g n q k]
  unfold val_main_v72 val_main_v71
  generalize val_main_v65 (F := Ideal) x0 x1 x2 x3 = Z
  generalize val_main_v70 (F := Ideal) x0 x1 x2 x3 = Y
  pointwise

/-- The sum of the row's weights. -/
theorem v73_at (b : Fin 4) (h : Fin 2) (g : Fin 4) (n : Fin 32) (q : Fin 128) :
    val_main_v73 (F := Ideal) x0 x1 x2 x3 (ix5 b h g n q) = 0 + ∑ k : Fin 641, val_main_v72 (F := Ideal) x0 x1 x2 x3 (ix6 b h g n q k) := by
  unfold val_main_v73
  generalize val_main_v72 (F := Ideal) x0 x1 x2 x3 = Z
  refine (Ideal.hostReduceAdd_single _ red6 Z _ (ix5 b h g n q)).trans ?_
  refine congrArg₂ (· + ·) Ideal.ofBits_zero_f32 (Finset.sum_congr rfl fun k _ => congrArg Z (lift6 b h g n q k))

/-- A weight. -/
theorem v76_at (b : Fin 4) (h : Fin 2) (g : Fin 4) (n : Fin 32) (q : Fin 128) (k : Fin 641) :
    val_main_v76 (F := Ideal) x0 x1 x2 x3 (ix6 b h g n q k)
      = Ideal.div (val_main_v72 (F := Ideal) x0 x1 x2 x3 (ix6 b h g n q k)) (val_main_v73 (F := Ideal) x0 x1 x2 x3 (ix5 b h g n q)) := by
  unfold val_main_v76 val_main_v75 val_main_v74
  generalize val_main_v72 (F := Ideal) x0 x1 x2 x3 = Z
  generalize val_main_v73 (F := Ideal) x0 x1 x2 x3 = Y
  pointwise

/-- The reference's numerator at a window key. -/
theorem v65_win (b : Fin 4) (h : Fin 2) (g : Fin 4) (n : Fin 32) (q : Fin 128) (k : Fin 384) :
    val_main_v65 (F := Ideal) x0 x1 x2 x3 (ix6 b h g n q ⟨k.val, by omega⟩) = val_main_v58 (F := Ideal) x0 x1 (ix6 b h g n q k) := by
  unfold val_main_v65
  generalize val_main_v58 (F := Ideal) x0 x1 = A
  generalize val_main_v62 (F := Ideal) x0 x2 = B
  generalize val_main_v64 (F := Ideal) x3 = C
  pointwise

/-- The reference's numerator at a context key. -/
theorem v65_ctx (b : Fin 4) (h : Fin 2) (g : Fin 4) (n : Fin 32) (q : Fin 128) (k : Fin 256) :
    val_main_v65 (F := Ideal) x0 x1 x2 x3 (ix6 b h g n q ⟨384 + k.val, by omega⟩) = val_main_v62 (F := Ideal) x0 x2 (ix6 b h g n q k) := by
  unfold val_main_v65
  generalize val_main_v58 (F := Ideal) x0 x1 = A
  generalize val_main_v62 (F := Ideal) x0 x2 = B
  generalize val_main_v64 (F := Ideal) x3 = C
  pointwise

/-- The reference's numerator at the sink. -/
theorem v65_sink (b : Fin 4) (h : Fin 2) (g : Fin 4) (n : Fin 32) (q : Fin 128) :
    val_main_v65 (F := Ideal) x0 x1 x2 x3 (ix6 b h g n q ⟨640, by omega⟩) = val_main_v64 (F := Ideal) x3 (ix6 b h g n q 0) := by
  unfold val_main_v65
  generalize val_main_v58 (F := Ideal) x0 x1 = A
  generalize val_main_v62 (F := Ideal) x0 x2 = B
  generalize val_main_v64 (F := Ideal) x3 = C
  pointwise

/-- The window's key at its row. -/
theorem v17_at (b : Fin 4) (h : Fin 2) (n : Fin 32) (q : Fin 128) (k : Fin 384) (d : Fin 128) (hv : Cert.Att.valid n.val q.val k.val) :
   val_main_v17 (F := Ideal) x1 (ix5 b n k h d) = x1 (ix2 ⟨b.val * 4096 + Cert.Att.key n.val k.val, by have := Cert.Att.key_lt n k; omega⟩ ⟨h.val * 128 + d.val, by omega⟩) := by
  pointwise [val_main_v17, val_main_v16, val_main_v15, val_main_v14, val_main_v13, val_main_v12, val_main_v3, val_main_v2, val_main_call0_v0, val_main_c]
  have hk := Cert.Att.key_valid n q.val k.val hv k.isLt
  unfold Cert.Att.valid at hv
  split
  · split
    · refine congrArg (fun a => x1 (ix2 a _)) (Fin.ext ?_); simp only; omega
    · omega
  · split
    · split
      · refine congrArg (fun a => x1 (ix2 a _)) (Fin.ext ?_); simp only; omega
      · omega
    · split
      · refine congrArg (fun a => x1 (ix2 a _)) (Fin.ext ?_); simp only; omega
      · omega

/-- The window's value at its row. -/
theorem v23_at (b : Fin 4) (h : Fin 2) (n : Fin 32) (q : Fin 128) (k : Fin 384) (d : Fin 128) (hv : Cert.Att.valid n.val q.val k.val) :
   val_main_v23 (F := Ideal) x2 (ix5 b n k h d) = x2 (ix2 ⟨b.val * 4096 + Cert.Att.key n.val k.val, by have := Cert.Att.key_lt n k; omega⟩ ⟨12544 + (h.val * 128 + d.val), by omega⟩) := by
  pointwise [val_main_v23, val_main_v22, val_main_v21, val_main_v20, val_main_v19, val_main_v18, val_main_v5, val_main_v4, val_main_call1_v0, val_main_c_0]
  have hk := Cert.Att.key_valid n q.val k.val hv k.isLt
  unfold Cert.Att.valid at hv
  split
  · split
    · refine congrArg (fun a => x2 (ix2 a _)) (Fin.ext ?_); simp only; omega
    · omega
  · split
    · split
      · refine congrArg (fun a => x2 (ix2 a _)) (Fin.ext ?_); simp only; omega
      · omega
    · split
      · refine congrArg (fun a => x2 (ix2 a _)) (Fin.ext ?_); simp only; omega
      · omega

/-- The window's scores. -/
theorem v58_at (b : Fin 4) (h : Fin 2) (g : Fin 4) (n : Fin 32) (q : Fin 128) (k : Fin 384) :
   val_main_v58 (F := Ideal) x0 x1 (ix6 b h g n q k) = Cert.Att.sw x0 x1 b h g n q k := by
  unfold Cert.Att.sw
  pointwise [val_main_v58, val_main_call2_v2, val_main_call2_v1, val_main_call2_v0, val_main_cst_6, val_main_v57, val_main_v56, val_main_cst, val_main_v55, val_main_v54, val_main_v11, val_main_v1, val_main_v0]
  by_cases hv : Cert.Att.valid n.val q.val k.val
  · rw [if_pos hv, (mask_iff n q k).2 hv]
    refine congrArg (· * Ideal.ofBits FTy.f32 1035273459#32) (Finset.sum_congr rfl fun x _ => ?_)
    rw [v17_at x1 b h n q k x hv]
    exact mul_comm _ _
  · rw [if_neg hv]
    have e : val_main_v53 (F := Ideal) (ix3 n q k) = 0#1 := by
      have h1 := mt (mask_iff n q k).1 hv
      generalize val_main_v53 (F := Ideal) (ix3 n q k) = w at h1
      revert w; decide
    rw [e]
    exact Cert.Att.negInf

/-- The context's scores. -/
theorem v62_at (b : Fin 4) (h : Fin 2) (g : Fin 4) (n : Fin 32) (q : Fin 128) (k : Fin 256) :
   val_main_v62 (F := Ideal) x0 x2 (ix6 b h g n q k) = Cert.Att.sx x0 x2 b h g n q k := by
  unfold Cert.Att.sx
  pointwise [val_main_v62, val_main_v61, val_main_cst_7, val_main_v60, val_main_v59, val_main_v7, val_main_v6, val_main_v11, val_main_v1, val_main_v0]
  refine congrArg (· * Ideal.ofBits FTy.f32 1035273459#32) (Finset.sum_congr rfl fun x _ => ?_)
  exact mul_comm _ _

/-- The sink. -/
theorem v64_at (b : Fin 4) (h : Fin 2) (g : Fin 4) (n : Fin 32) (q : Fin 128) :
   val_main_v64 (F := Ideal) x3 (ix6 b h g n q 0) = x3 (ix1 ⟨h.val * 4 + g.val, by omega⟩) := by
  pointwise [val_main_v64, val_main_v63, val_main_v10]

/-- The result, from the weights. -/
theorem v85_at (i : Fin 16384) (j : Fin 1024) :
   val_main_v85 (F := Ideal) x0 x1 x2 x3 (ix2 i j)
    = ∑ x : Fin 384, val_main_v23 (F := Ideal) x2 (ix5 ⟨i.val / 4096, by omega⟩ ⟨i.val / 128 % 32, by omega⟩ x ⟨j.val / 512, by omega⟩ ⟨j.val % 128, by omega⟩)
        * val_main_v76 (F := Ideal) x0 x1 x2 x3 (ix6 ⟨i.val / 4096, by omega⟩ ⟨j.val / 512, by omega⟩ ⟨j.val / 128 % 4, by omega⟩ ⟨i.val / 128 % 32, by omega⟩ ⟨i.val % 128, by omega⟩ ⟨x.val, by omega⟩)
      + ∑ x : Fin 256, x2 (ix2 ⟨16384 + (i.val / 4096 * 256 + x.val), by omega⟩ ⟨12544 + (j.val / 512 * 128 + j.val % 128), by omega⟩)
        * val_main_v76 (F := Ideal) x0 x1 x2 x3 (ix6 ⟨i.val / 4096, by omega⟩ ⟨j.val / 512, by omega⟩ ⟨j.val / 128 % 4, by omega⟩ ⟨i.val / 128 % 32, by omega⟩ ⟨i.val % 128, by omega⟩ ⟨384 + x.val, by omega⟩) := by
  pointwise [val_main_v85, val_main_v84, val_main_v83, val_main_v82, val_main_v81, val_main_v80, val_main_v79, val_main_v78, val_main_v77, val_main_v9, val_main_v8]

/-- The weighted sum of the values is attention. -/
theorem sums_eq (h0 : ∀ i j, ∃ r : ℝ, x0 (ix2 i j) = (r : EReal)) (h1 : ∀ i j, ∃ r : ℝ, x1 (ix2 i j) = (r : EReal))
    (h2 : ∀ (i : Fin 1024) (j : Fin 256), ∃ r : ℝ, x2 (ix2 ⟨16384 + i.val, by omega⟩ ⟨12288 + j.val, by omega⟩) = (r : EReal))
    (h3 : ∀ i, ∃ r : ℝ, x3 (ix1 i) = (r : EReal)) (b : Fin 4) (h : Fin 2) (g : Fin 4) (n : Fin 32) (q : Fin 128) (d : Fin 128) :
    Cert.Att.att x0 x1 x2 x3 b h g n q d
      = ∑ x : Fin 384, val_main_v23 (F := Ideal) x2 (ix5 b n x h d)
        * val_main_v76 (F := Ideal) x0 x1 x2 x3 (ix6 b h g n q ⟨x.val, by omega⟩)
      + ∑ x : Fin 256, x2 (ix2 ⟨16384 + (b.val * 256 + x.val), by omega⟩ ⟨12544 + (h.val * 128 + d.val), by omega⟩)
        * val_main_v76 (F := Ideal) x0 x1 x2 x3 (ix6 b h g n q ⟨384 + x.val, by omega⟩) := by
  simp only [v76_at, v73_at, v72_at]
  unfold Cert.Att.att
  refine Cert.Att.soft_eq (fun k => val_main_v65 (F := Ideal) x0 x1 x2 x3 (ix6 b h g n q k)) _ _ _ _
    (fun c => val_main_v23 (F := Ideal) x2 (ix5 b n c h d)) _ ?_ ?_ ?_ ?_ ?_ ?_ ?_
  · exact fun c => (v65_win x0 x1 x2 x3 _ _ _ _ _ c).trans (v58_at x0 x1 _ _ _ _ _ c)
  · exact fun c => (v65_ctx x0 x1 x2 x3 _ _ _ _ _ c).trans (v62_at x0 x2 _ _ _ _ _ c)
  · exact (v65_sink x0 x1 x2 x3 _ _ _ _ _).trans (v64_at x3 _ _ _ _ _)
  · intro c
    unfold Cert.Att.sw
    by_cases hv : Cert.Att.valid n.val q.val c.val
    · right
      simp only [if_pos hv]
      exact Cert.Att.real_mul (Cert.Att.real_sum fun x => Cert.Att.real_mul (h0 _ _) (h1 _ _)) Cert.Att.real_scale
    · left
      simp only [if_neg hv]
  · intro c
    unfold Cert.Att.sx
    refine Cert.Att.real_mul (Cert.Att.real_sum fun x => Cert.Att.real_mul (h0 _ _) (h2 ⟨b.val * 256 + c.val, by omega⟩ ⟨h.val * 128 + x.val, by omega⟩)) Cert.Att.real_scale
  · exact h3 _
  · intro c hc
    have hv : Cert.Att.valid n.val q.val c.val := by
      by_contra hv
      exact hc (by unfold Cert.Att.sw; simp only [if_neg hv])
    exact (v23_at x2 b h n q c d hv).symm

/-- The reference's result at an index is attention there. -/
theorem result_eq (h0 : ∀ i j, ∃ r : ℝ, x0 (ix2 i j) = (r : EReal)) (h1 : ∀ i j, ∃ r : ℝ, x1 (ix2 i j) = (r : EReal))
    (h2 : ∀ (i : Fin 1024) (j : Fin 256), ∃ r : ℝ, x2 (ix2 ⟨16384 + i.val, by omega⟩ ⟨12288 + j.val, by omega⟩) = (r : EReal))
    (h3 : ∀ i, ∃ r : ℝ, x3 (ix1 i) = (r : EReal)) (i : Fin 16384) (j : Fin 1024) :
    Cert.Att.att x0 x1 x2 x3 ⟨i.val / 4096, by omega⟩ ⟨j.val / 512, by omega⟩ ⟨j.val / 128 % 4, by omega⟩ ⟨i.val / 128 % 32, by omega⟩ ⟨i.val % 128, by omega⟩ ⟨j.val % 128, by omega⟩
      = val_main_v85 (F := Ideal) x0 x1 x2 x3 (ix2 i j) :=
  (sums_eq x0 x1 x2 x3 h0 h1 h2 h3 _ _ _ _ _ _).trans (v85_at x0 x1 x2 x3 i j).symm

end Cert.ReferenceIdeal.Rows
end
-- ==== Proof.AttClaim.lean ====
module

public import proofs.«01_k».proof.Defs
public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.Tactic.WordOmega
public import proofs.«01_k».proof.Proof.AttPoint
public import proofs.«01_k».proof.Proof.AttRef
public import proofs.«01_k».proof.Proof.Gen.Pre_finite_att
public import Idealize.ShloMosaic.Lib.ReduceAll

@[expose] public section

set_option maxRecDepth 16384

noncomputable section

namespace Cert.Pre_finite_att

open Cert.Pre_finite_att.Gen Idealize.ShloMosaic

/-- An extended real whose absolute value is below the top is a real number. -/
theorem real_of_abs_lt {x : EReal} (h : max x (-x) < ⊤) : ∃ r : ℝ, x = (r : EReal) := by
  induction x using EReal.rec with
  | bot => simp at h
  | top => simp at h
  | coe r => exact ⟨r, rfl⟩

/-- The bits of positive infinity stand for the top. -/
theorem posInf : Ideal.ofBits .f32 2139095040#32 = ⊤ := by
  simp [Ideal.ofBits, Ideal.ieee]

/-- A comparison of an absolute value with infinity that holds says that the value is a real number. -/
theorem real_of_cmp {φ : FTy} {x : Ideal φ} {y : EReal} (hy : y = ⊤) (h : Ideal.cmp .olt (max x (-x)) y = 1#1) : ∃ r : ℝ, x = (r : EReal) := by
  rw [hy] at h
  have h' : BitVec.ofBool (decide (max x (-x) < (⊤ : EReal))) = 1#1 := h
  by_cases k : max x (-x) < (⊤ : EReal)
  · exact real_of_abs_lt k
  · rw [decide_eq_false k] at h'
    exact absurd h' (by decide)

/-- A scalar has one index. -/
instance : Subsingleton S_.Idx := ⟨fun a b => funext fun i => i.elim0⟩

/-- What the precondition says of the arguments: the entries the call reads in scores are real numbers. -/
theorem finite (x0 : FVec Ideal S16384x1024 .bf16) (x1 : FVec Ideal S16384x256 .bf16) (x2 : FVec Ideal S17408x14080 .f32) (x3 : FVec Ideal S8 .f32)
    (h : fn (F := Ideal) x0 x1 x2 x3 = fun _ => 1#1) :
    (∀ i j, ∃ r : ℝ, x0 (ix2 i j) = (r : EReal)) ∧ (∀ i j, ∃ r : ℝ, x1 (ix2 i j) = (r : EReal))
      ∧ (∀ (i : Fin 1024) (j : Fin 256), ∃ r : ℝ, x2 (ix2 ⟨16384 + i.val, by omega⟩ ⟨12288 + j.val, by omega⟩) = (r : EReal))
      ∧ (∀ i, ∃ r : ℝ, x3 (ix1 i) = (r : EReal)) := by
  have e := congrFun h (Shape.Idx.first Facts.h_S_)
  unfold fn fn_part1 at e
  obtain ⟨e, e3⟩ := IntOp.andi_eq_one.mp e
  obtain ⟨e, e2⟩ := IntOp.andi_eq_one.mp e
  obtain ⟨e0, e1⟩ := IntOp.andi_eq_one.mp e
  refine ⟨fun i j => ?_, fun i j => ?_, fun i j => ?_, fun i => ?_⟩
  · exact real_of_cmp posInf (Host.reduce_andi_all _ _ _ _ _ e0 (ix2 i j))
  · exact real_of_cmp posInf (Host.reduce_andi_all _ _ _ _ _ e1 (ix2 i j))
  · have q := Host.reduce_andi_all _ _ _ _ _ e2 (ix2 i j)
    have q' := real_of_cmp (φ := .f32) posInf q
    obtain ⟨r, hr⟩ := q'
    refine ⟨r, ?_⟩
    rw [← hr]
    pointwise
  · exact real_of_cmp posInf (Host.reduce_andi_all _ _ _ _ _ e3 (ix1 i))

end Cert.Pre_finite_att

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ)

/-- The array the region leaves. -/
theorem final (c : Dev nD) : (dats m 0 c).arrAt 10 (cfgs 0).N
    = attended (m ((c : Thread nD τ).loc main_arg0)) (m ((c : Thread nD τ).loc main_arg1)) (m ((c : Thread nD τ).loc main_arg2))
        (m ((c : Thread nD τ).loc main_arg3)) := by
  rw [← V_main_arg0 m c, ← V_main_arg1 m c, ← V_main_arg2 m c, ← V_main_arg3 m c]
  refine (dats m 0 c).arrAt_eq_of_covers 10 _ (by decide +kernel) fun t _ y => ?_
  blk_simp
  rw [after0_10]
  exact point m c t y

/-- The attention's result is its reference's, of arguments whose scores are real numbers. -/
theorem algebraic : Cert.algebraic_KernelIdeal_ReferenceIdeal_pre_finite_att := by
  intro m g m' g' hpre hagree
  refine ⟨fun c => (dats m 0 c).arrAt 10 (cfgs 0).N, ?_, ?_⟩
  · exact Cert.KernelIdeal.Value.run_blocks m g
  · refine (θ_run _ _ _).mono (fun _ h c => ⟨(h c).1.trans ?_, (h c).2⟩) (Cert.ReferenceIdeal.Value.run m' g')
    obtain ⟨h0, h1, h2, h3⟩ := hagree c
    obtain ⟨f0, f1, f2, f3⟩ := Cert.Pre_finite_att.finite _ _ _ _ (hpre c)
    rw [Cert.ReferenceIdeal.Read.val_main_v85_eq, h0, h1, h2, h3]
    refine Eq.trans ?_ (final m c).symm
    funext i
    idx_vars i
    exact (Cert.ReferenceIdeal.Rows.result_eq _ _ _ _ f0 f1 f2 f3 i0 i1).symm

end Cert.KernelIdeal.Blocks

end
-- ==== Proof.DownRun.lean ====
/-
  The launch of the experts' output call, at every contents of its two tables under which the blocks lie inside their
  arrays: the body in its two cases (the row block is in use, or it is filled with zeros), the proof data, the run, the
  frame. The layout follows the generated frames of the other calls.
-/
module

public import proofs.«01_k».proof.Proof.Gen.MoeDownIdeal
public import proofs.«01_k».proof.Proof.Gen.MoeDownIdeal.Launch
public import proofs.«01_k».proof.Proof.Gen.MoeDownIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MoeDownIdeal.Down

open Cert.MoeDownIdeal Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S72 .i32 := Memref.whole main_arg2
abbrev htbM0_0 : tbM0_0.IsWhole := Memref.isWhole_whole _
abbrev tbM0_1 : Memref sig .tc .smem S1 .i32 := Memref.whole main_arg3
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_MoeDownIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

/-! ## The kernel body on any staging memrefs: a subtype the run finds -/

/-- One staging buffer of output window 2, through which its contents are stated (`View.read_writes_of_cover`: the
    choice does not matter). -/
abbrev VO0_2 : View sig .tc .vmem S512x1024 .f32 := (Memref.whole cc0_stg2_0 : Memref sig .tc .vmem S512x1024 .f32).view
/-- Each window's current staging memref at point `t`, spelled as the pipeline passes it (`bodyAt0`), and its wholeness. -/
abbrev ms0_0 (hO : Ok m) (t : Fin (cfgM m hO).N) : Memref sig .tc .vmem S512x7168 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x7168x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x1024 .f32 := spec0_2.stage ((cfgM m hO).slots t 2)
abbrev hs0_2 (hO : Ok m) (t : Fin (cfgM m hO).N) : (ms0_2 m hO t).IsWhole := hstage0_2 (((cfgM m hO).slots t 2).cast nbuf0_2)

/-- Window 2 (result 0 (%1)) is written back at every point, at any contents of the tables (its index map reads none). -/
theorem flush0_2 (a : (pcfg0 (F := F)).Adm) : ∀ t : Fin (cfg0 a).N, ((cfg0 a).win 2).flush t = true :=
  (fun t => (Pipeline.Window.flushOf_reads cc0_transform_2 reads0_2 hreads0_2 1 (by decide) (by decide) (Pipeline.Window.sep_of_coord cc0_transform_2 1 0 (fun _ => rfl) (by decide)) (P := 1) (m := 0) (by decide) rfl t).mpr (Nat.mod_one _) : ∀ t : Fin grid0.N, Pipeline.Window.flushOf grid0 true cc0_transform_2 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_down (grid0.coords t) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-- The word of the second table that the body compares the row block's number with. -/
abbrev usedWord (c : Dev nD) (xt1 : TbBuf0 (F := F) c tbM0_1) : BitVec 32 :=
  View.readAt (Elt F) (tbM0_1).view (Rect.unit (s := S1) ![0] S1.size inb_S1_S1_0).toLoadRect xt1 (Shape.Idx.first (numel1_S1.symm ▸ Nat.one_pos))

/-- The row block is in use: its number is below the word. -/
abbrev InUse (c : Dev nD) (i : grid0.Coords) (xt1 : TbBuf0 (F := F) c tbM0_1) : Prop := k0_cond1 i (usedWord c xt1) = 1#1

/-- The two conditions of the body exclude each other and leave nothing out. -/
theorem cond2_iff (i : grid0.Coords) (w : BitVec 32) : k0_cond2 i w = 1#1 ↔ ¬k0_cond1 i w = 1#1 := by
  unfold k0_cond1 k0_cond2
  simp only [Scalar.cmpi, Scalar.extui, IntOp.cmpi, BitVec.slt, BitVec.sle]
  by_cases h : (BitVec.ofNat 32 (i 1).val).toInt < w.toInt
  · simp [h, not_le.mpr h]
  · simp [h, not_lt.mp h]

set_option maxHeartbeats 1000000 in
/-- The body where the row block is in use: what its stores leave in the output's buffer, as pieces, with the proof of the run. -/
noncomputable def kernelRun0_A (c : Dev nD) (i : grid0.Coords) (arg4 : Memref sig .tc .vmem S512x7168 .bf16) (harg4 : arg4.IsWhole) (arg5 : Memref sig .tc .vmem S1x7168x1024 .bf16) (harg5 : arg5.IsWhole) (arg6 : Memref sig .tc .vmem S512x1024 .f32) (harg6 : arg6.IsWhole)
    (x0 : Vec F S512x7168 .bf16) (x1 : Vec F S1x7168x1024 .bf16) (xt0 : TbBuf0 (F := F) c tbM0_0) (xt1 : TbBuf0 (F := F) c tbM0_1)
    (k0_h1 : InUse c i xt1) :
    { L2 : List (View.Piece (Elt F) S512x1024 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d) ∗ tbPt0 c tbM0_0 xt0 ∗ tbPt0 c tbM0_1 xt1
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L2) ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg4 harg4 arg5 harg5 arg6 harg6) K } := by
  have k0_h2 : ¬k0_cond2 i (usedWord c xt1) = 1#1 := fun h => (cond2_iff i _).mp h k0_h1
  refine ⟨?_, fun E K => ?run⟩
  case run =>
    simp only [cc0_moe_down_eq_skeleton]; unfold cc0_moe_down_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec! (disch := first | (guard_target = k0_cond1 _ _ = _; exact k0_h1) | (guard_target = ¬(k0_cond2 _ _ = _); exact k0_h2))
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

set_option maxHeartbeats 1000000 in
/-- The body where the row block is not in use: what its store leaves in the output's buffer, with the proof of the run. -/
noncomputable def kernelRun0_B (c : Dev nD) (i : grid0.Coords) (arg4 : Memref sig .tc .vmem S512x7168 .bf16) (harg4 : arg4.IsWhole) (arg5 : Memref sig .tc .vmem S1x7168x1024 .bf16) (harg5 : arg5.IsWhole) (arg6 : Memref sig .tc .vmem S512x1024 .f32) (harg6 : arg6.IsWhole)
    (x0 : Vec F S512x7168 .bf16) (x1 : Vec F S1x7168x1024 .bf16) (xt0 : TbBuf0 (F := F) c tbM0_0) (xt1 : TbBuf0 (F := F) c tbM0_1)
    (k0_h1 : ¬InUse c i xt1) :
    { L2 : List (View.Piece (Elt F) S512x1024 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d) ∗ tbPt0 c tbM0_0 xt0 ∗ tbPt0 c tbM0_1 xt1
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L2) ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg4 harg4 arg5 harg5 arg6 harg6) K } := by
  have k0_h2 : k0_cond2 i (usedWord c xt1) = 1#1 := (cond2_iff i _).mpr k0_h1
  refine ⟨?_, fun E K => ?run⟩
  case run =>
    simp only [cc0_moe_down_eq_skeleton]; unfold cc0_moe_down_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec! (disch := first | (guard_target = ¬(k0_cond1 _ _ = _); exact k0_h1) | (guard_target = k0_cond2 _ _ = _; exact k0_h2))
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

/-- The run's pieces for output 2 tile its block (1 store of `S512x1024`, checked by the kernel's evaluation: Lib/Ring.lean `Piece.tiledL`, linear in the pieces, through a loop's `@[irreducible]` trip theorem too), so they cover it. -/
theorem cover0_A_2 (c : Dev nD) (i : grid0.Coords) (arg4 : Memref sig .tc .vmem S512x7168 .bf16) (harg4 : arg4.IsWhole) (arg5 : Memref sig .tc .vmem S1x7168x1024 .bf16) (harg5 : arg5.IsWhole) (arg6 : Memref sig .tc .vmem S512x1024 .f32) (harg6 : arg6.IsWhole)
    (x0 : Vec F S512x7168 .bf16) (x1 : Vec F S1x7168x1024 .bf16) (xt0 : TbBuf0 (F := F) c tbM0_0) (xt1 : TbBuf0 (F := F) c tbM0_1) (k0_h1 : InUse c i xt1) (y : S512x1024.Idx) :
    ∃ pc ∈ (kernelRun0_A c i arg4 harg4 arg5 harg5 arg6 harg6 x0 x1 xt0 xt1 k0_h1).1, y ∈ pc.1.set :=
  View.cover_of_tiledL (kernelRun0_A c i arg4 harg4 arg5 harg5 arg6 harg6 x0 x1 xt0 xt1 k0_h1).1 S512x1024.size (by sl_kernel_rfl) y

/-- What the run leaves in output 2's staging buffer: its pieces read back over junk. -/
def out0_A_2 (c : Dev nD) (i : grid0.Coords) (arg4 : Memref sig .tc .vmem S512x7168 .bf16) (harg4 : arg4.IsWhole) (arg5 : Memref sig .tc .vmem S1x7168x1024 .bf16) (harg5 : arg5.IsWhole) (arg6 : Memref sig .tc .vmem S512x1024 .f32) (harg6 : arg6.IsWhole)
    (x0 : Vec F S512x7168 .bf16) (x1 : Vec F S1x7168x1024 .bf16) (xt0 : TbBuf0 (F := F) c tbM0_0) (xt1 : TbBuf0 (F := F) c tbM0_1) (k0_h1 : InUse c i xt1) : Vec F S512x1024 .f32 :=
  VO0_2.read (Elt F) (VO0_2.writes (Elt F) VO0_2.junk (kernelRun0_A c i arg4 harg4 arg5 harg5 arg6 harg6 x0 x1 xt0 xt1 k0_h1).1)

/-- The run's pieces for output 2 tile its block (1 store of `S512x1024`, checked by the kernel's evaluation: Lib/Ring.lean `Piece.tiledL`, linear in the pieces, through a loop's `@[irreducible]` trip theorem too), so they cover it. -/
theorem cover0_B_2 (c : Dev nD) (i : grid0.Coords) (arg4 : Memref sig .tc .vmem S512x7168 .bf16) (harg4 : arg4.IsWhole) (arg5 : Memref sig .tc .vmem S1x7168x1024 .bf16) (harg5 : arg5.IsWhole) (arg6 : Memref sig .tc .vmem S512x1024 .f32) (harg6 : arg6.IsWhole)
    (x0 : Vec F S512x7168 .bf16) (x1 : Vec F S1x7168x1024 .bf16) (xt0 : TbBuf0 (F := F) c tbM0_0) (xt1 : TbBuf0 (F := F) c tbM0_1) (k0_h1 : ¬InUse c i xt1) (y : S512x1024.Idx) :
    ∃ pc ∈ (kernelRun0_B c i arg4 harg4 arg5 harg5 arg6 harg6 x0 x1 xt0 xt1 k0_h1).1, y ∈ pc.1.set :=
  View.cover_of_tiledL (kernelRun0_B c i arg4 harg4 arg5 harg5 arg6 harg6 x0 x1 xt0 xt1 k0_h1).1 S512x1024.size (by sl_kernel_rfl) y

/-- What the run leaves in output 2's staging buffer: its pieces read back over junk. -/
def out0_B_2 (c : Dev nD) (i : grid0.Coords) (arg4 : Memref sig .tc .vmem S512x7168 .bf16) (harg4 : arg4.IsWhole) (arg5 : Memref sig .tc .vmem S1x7168x1024 .bf16) (harg5 : arg5.IsWhole) (arg6 : Memref sig .tc .vmem S512x1024 .f32) (harg6 : arg6.IsWhole)
    (x0 : Vec F S512x7168 .bf16) (x1 : Vec F S1x7168x1024 .bf16) (xt0 : TbBuf0 (F := F) c tbM0_0) (xt1 : TbBuf0 (F := F) c tbM0_1) (k0_h1 : ¬InUse c i xt1) : Vec F S512x1024 .f32 :=
  VO0_2.read (Elt F) (VO0_2.writes (Elt F) VO0_2.junk (kernelRun0_B c i arg4 harg4 arg5 harg5 arg6 harg6 x0 x1 xt0 xt1 k0_h1).1)

instance (c : Dev nD) (i : grid0.Coords) (xt1 : TbBuf0 (F := F) c tbM0_1) : Decidable (InUse c i xt1) := inferInstanceAs (Decidable (_ = _))

/-! ## What the outputs hold after each point -/

/-- What the outputs' staging buffers hold after the body at point `t`: the run's contents at
    the point's memrefs and input blocks. -/
def outsAt0 (hO : Ok m) (c : Dev nD) (t : Fin (cfgM m hO).N) : Vec F S512x1024 .f32 :=
  if h : InUse c (grid0.coords t) (tbl m 1) then
    out0_A_2 c (grid0.coords t) (ms0_0 m hO t) (hs0_0 m hO t) (ms0_1 m hO t) (hs0_1 m hO t) (ms0_2 m hO t) (hs0_2 m hO t) (iblk m hO c 0 t) (iblk m hO c 1 t) (tbl m 0) (tbl m 1) h
  else
    out0_B_2 c (grid0.coords t) (ms0_0 m hO t) (hs0_0 m hO t) (ms0_1 m hO t) (hs0_1 m hO t) (ms0_2 m hO t) (hs0_2 m hO t) (iblk m hO c 0 t) (iblk m hO c 1 t) (tbl m 0) (tbl m 1) h

/-- The output window is stored at every point. -/
theorem idle0_2 (hO : Ok m) (i : grid0.Coords) : (cfgM m hO).idle 2 i = false := by
  show (!(k0_cond1 i ((tbl m).atD 1 ![0]) == 1#1) && !(k0_cond2 i ((tbl m).atD 1 ![0]) == 1#1)) = false
  by_cases h : k0_cond1 i ((tbl m).atD 1 ![0]) = 1#1
  · rw [h]; rfl
  · rw [(cond2_iff i _).mpr h]; exact Bool.and_false _

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  unfold outsAt0
  by_cases hu : InUse c (grid0.coords t) (tbl m 1)
  · rw [dif_pos hu]; unfold out0_A_2
    iintro ⟨⟨HΦ, ⟨HT0, HT1⟩⟩, Ho, ⟨%d0, H0⟩, ⟨%d1, H1⟩, ⟨%d2, H2⟩⟩
    iapply ((kernelRun0_A c (grid0.coords t) _ _ _ _ _ _ (iblk m hO c 0 t) (iblk m hO c 1 t) (tbl m 0) (tbl m 1) hu).2 Set.univ _)
    isplitl [H0]; · iexact H0
    isplitl [H1]; · iexact H1
    isplitl [H2]; · iexists _; iexact H2
    isplitl [HT0]; · iexact HT0
    isplitl [HT1]; · iexact HT1
    iintro ⟨H0, H1, ⟨%e2, H2⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _ _)
  · rw [dif_neg hu]; unfold out0_B_2
    iintro ⟨⟨HΦ, ⟨HT0, HT1⟩⟩, Ho, ⟨%d0, H0⟩, ⟨%d1, H1⟩, ⟨%d2, H2⟩⟩
    iapply ((kernelRun0_B c (grid0.coords t) _ _ _ _ _ _ (iblk m hO c 0 t) (iblk m hO c 1 t) (tbl m 0) (tbl m 1) hu).2 Set.univ _)
    isplitl [H0]; · iexact H0
    isplitl [H1]; · iexact H1
    isplitl [H2]; · iexists _; iexact H2
    isplitl [HT0]; · iexact HT0
    isplitl [HT1]; · iexact HT1
    iintro ⟨H0, H1, ⟨%e2, H2⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO, idle0_2 m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- THE FRAME: `Cert.quiescent_MoeDownIdeal`'s statement (Defs.lean) at any `F` — Proof.lean cites it at `Bits`:
    `theorem Cert.Proof.claim : Cert.Claim := ⟨Cert.MoeDownIdeal.Gen.facts, fun m ρ _ => Cert.MoeDownIdeal.Gen.frame m ρ⟩`; here for every contents of the PREFETCHED TABLES, UNDER `Gen.Ok m` (the pipeline's side condition of
    them), which Proof.lean proves from the precondition: `⟨…, fun m ρ h => Cert.MoeDownIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.MoeDownIdeal.Down

end
-- ==== Proof.DownTables.lean ====
/- What the precondition says of the two tables of the experts' output call, and the blocks its windows name at them. -/
module

public import proofs.«01_k».proof.Defs
public import proofs.«01_k».proof.Proof.DownRun
public import proofs.«01_k».proof.Proof.Gen.Pre_tables_down
public import Idealize.ShloMosaic.Lib.ReduceAll
public import Idealize.ShloMosaic.Lib.StableHlo.Predicate
public import Idealize.ShloMosaic.Lib.Pointwise

@[expose] public section

set_option maxRecDepth 16384

noncomputable section

namespace Cert.Pre_tables_down

open Cert.Pre_tables_down.Gen Idealize.ShloMosaic

/-- A word that is at least zero and below eight, read signed, is below eight. -/
theorem lt_eight {v : BitVec 32} (h0 : IntOp.cmpi .sge v 0#32 = 1#1) (h8 : IntOp.cmpi .slt v 8#32 = 1#1) : v.toNat < 8 := by
  have hv := v.isLt
  simp only [IntOp.cmpi, BitVec.sle, BitVec.slt, StableHlo.Predicate.ofBool_eq_one_iff, decide_eq_true_eq, BitVec.toInt, BitVec.toNat_ofNat] at h0 h8
  omega

/-- A word that is at least one and at most seventy-two, read signed, is so. -/
theorem one_to {v : BitVec 32} (h1 : IntOp.cmpi .sge v 1#32 = 1#1) (h2 : IntOp.cmpi .sle v 72#32 = 1#1) : 1 ≤ v.toNat ∧ v.toNat ≤ 72 := by
  have hv := v.isLt
  simp only [IntOp.cmpi, BitVec.sle, BitVec.slt, StableHlo.Predicate.ofBool_eq_one_iff, decide_eq_true_eq, BitVec.toInt, BitVec.toNat_ofNat] at h1 h2
  omega

/-- A scalar has one index. -/
instance : Subsingleton S_.Idx := ⟨fun a b => funext fun i => i.elim0⟩

/-- An array of one element has one index. -/
theorem one_idx (a b : S1.Idx) : a = b := funext fun i => by
  obtain rfl : i = 0 := Subsingleton.elim _ _
  exact Fin.ext (by have h : (a 0).val < 1 := (a 0).isLt; have h' : (b 0).val < 1 := (b 0).isLt; omega)

/-- What the precondition says: every row block's expert is one of the eight, and from one to all of the row blocks are in use. -/
theorem tables {F : FTy → Type} [FloatOps F] (x0 : FVec F S36864x7168 .bf16) (x1 : FVec F S8x7168x2048 .f32) (x2 : IVec S72 32) (x3 : IVec S1 32)
    (h : fn (F := F) x0 x1 x2 x3 = fun _ => 1#1) :
    (∀ i : Fin 72, (x2 (ix1 i)).toNat < 8) ∧ 1 ≤ (x3 (ix1 0)).toNat ∧ (x3 (ix1 0)).toNat ≤ 72 := by
  have e := congrFun h (Shape.Idx.first Facts.h_S_)
  unfold fn at e
  obtain ⟨e, e2⟩ := IntOp.andi_eq_one.mp e
  obtain ⟨e0, e1⟩ := IntOp.andi_eq_one.mp e
  refine ⟨fun i => ?_, ?_⟩
  · obtain ⟨q0, q1⟩ := IntOp.andi_eq_one.mp (Host.reduce_andi_all _ _ _ _ _ e0 (ix1 i))
    exact lt_eight q0 q1
  · have r : ∀ j : S_.Idx, shapeCast S_ x3 Facts.shapeCasts_S1_S_ j = x3 (ix1 0) := fun j => congrArg x3 (one_idx _ _)
    unfold cmpi at e1 e2
    rw [r] at e1 e2
    exact one_to e1 e2

end Cert.Pre_tables_down

namespace Cert.MoeDownIdeal.Down

open Cert.MoeDownIdeal Cert.MoeDownIdeal.Gen Idealize.ShloMosaic Idealize.ShloMosaic.TcCoe

variable {F : FTy → Type} [FloatOps F]

/-- The facts of the two tables that the call needs. -/
structure Tables (pf : pre0.Contents (Elt F)) (be : IVec S72 32) (nu : IVec S1 32) : Prop where
  be_eq : pf 0 = be
  nu_eq : pf 1 = nu
  be_lt : ∀ i : Fin 72, (be (ix1 i)).toNat < 8
  one_le : 1 ≤ (nu (ix1 0)).toNat
  le_all : (nu (ix1 0)).toNat ≤ 72

variable {pf : pre0.Contents (Elt F)} {be : IVec S72 32} {nu : IVec S1 32}

/-- The block of rows the first window names: the point's own where it is in use, else the last in use. -/
theorem index0 (T : Tables pf be nu) (i : grid0.Coords) :
    cc0_transform_0 Facts₀.inb_S1_S1_0 Facts₀.numel1_S1 pf i = ![min (i 1).val ((nu (ix1 0)).toNat - 1), 0] := by
  have hi : (i 1).val < 72 := (i 1).isLt
  have hw : pf.at 1 (Rect.unit (s := S1) ![0] S1.size Facts₀.inb_S1_S1_0) Facts₀.numel1_S1 = nu (ix1 0) := by
    show pf 1 _ = _
    rw [T.nu_eq]
    exact congrArg nu (Cert.Pre_tables_down.one_idx _ _)
  have h1 := T.one_le
  have h2 := T.le_all
  unfold cc0_transform_0
  dsimp only
  rw [hw]
  generalize nu (ix1 0) = w at h1 h2
  have e : (Scalar.minsi (BitVec.ofNat 32 (i 1).val) (Scalar.subi w 1#32)).toNat = min (i 1).val (w.toNat - 1) := by
    have hs : (w - 1#32).toNat = w.toNat - 1 := by rw [BitVec.toNat_sub]; simp only [BitVec.toNat_ofNat]; omega
    have ht : (w - 1#32).toInt = ((w.toNat - 1 : ℕ) : ℤ) := by rw [BitVec.toInt, hs]; omega
    have hu : (BitVec.ofNat 32 (i 1).val).toInt = ((i 1).val : ℤ) := by rw [BitVec.toInt, BitVec.toNat_ofNat]; omega
    simp only [Scalar.minsi, IntOp.minsi, Scalar.subi, IntOp.subi, BitVec.slt, BitVec.sle, ht, hu]
    split_ifs <;> simp only [hs, BitVec.toNat_ofNat] <;> simp_all <;> omega
  rw [e]
  rfl

/-- The expert's block the second window names: the point's row block's expert, the point's half of the columns. -/
theorem index1 (T : Tables pf be nu) (i : grid0.Coords) :
    cc0_transform_1 Facts₀.k0_off1_inb Facts₀.numel1_S1 pf i = ![(be (ix1 (i 1))).toNat, 0, (i 0).val] := by
  have hi : (i 1).val < 72 := (i 1).isLt
  have hj : (i 0).val < 2 := (i 0).isLt
  have hw : ∀ (off : Fin 1 → ℕ) (inb : ∀ a, off a + S1.size a ≤ S72.size a), off 0 = (i 1).val →
      pf.at 0 (Rect.unit (s := S72) off S1.size inb) Facts₀.numel1_S1 = be (ix1 (i 1)) := by
    intro off inb ho
    show pf 0 _ = _
    rw [T.be_eq]
    refine congrArg be (funext fun (a : Fin 1) => ?_)
    obtain rfl : a = 0 := Subsingleton.elim _ _
    refine Fin.ext ?_
    have hz : ∀ j : S1.Idx, off 0 + 1 * (j 0).val = (i 1).val := fun j => by
      have h : (j 0).val < 1 := (j 0).isLt
      omega
    exact hz _
  have hk := hw (k0_off1 i) (Facts₀.k0_off1_inb i) (by show (BitVec.ofNat 32 (i 1).val).toNat = _; rw [BitVec.toNat_ofNat]; omega)
  show ![(pf.at 0 (Rect.unit (s := S72) (k0_off1 i) S1.size (Facts₀.k0_off1_inb i)) Facts₀.numel1_S1).toNat, 0, (BitVec.ofNat 32 (i 0).val).toNat] = _
  rw [hk, BitVec.toNat_ofNat, Nat.mod_eq_of_lt (by omega)]

/-- A block of whole row blocks of the hidden states is whole words. -/
theorem words0 (ix : Fin 2 → ℕ) (h : ∀ a, (ix a + 1) * S512x7168.size a ≤ S36864x7168.size a) :
    (Rect.block (s := S36864x7168) S512x7168.size ix h).WholeWords 2 := by
  have h2 : 2 ≤ S36864x7168.rank := by decide
  refine .inl (.inr ⟨h2, rfl, .inl ⟨?_, ?_⟩⟩)
  · show 2 ∣ ix 0 * 512
    omega
  · show 2 ∣ 512
    omega

/-- A block of an expert's columns takes all of its rows. -/
theorem words1 (ix : Fin 3 → ℕ) (h : ∀ a, (ix a + 1) * S1x7168x1024.size a ≤ S8x7168x2048.size a) (h0 : ix 1 = 0) :
    (Rect.block (s := S8x7168x2048) S1x7168x1024.size ix h).WholeWords 2 :=
  .inr ⟨(by decide : 2 ≤ S8x7168x2048.rank), rfl, by show ix 1 * 7168 = 0; rw [h0, Nat.zero_mul], rfl⟩

/-- At such tables every block lies inside its array. -/
theorem ok_of (T : Tables pf be nu) : ok0 pf := by
  refine ⟨fun i => ?_, fun i => ?_⟩
  · have hi : (i 1).val < 72 := (i 1).isLt
    rw [index0 T i]
    refine ⟨fun a => ?_, .inr (words0 _ _)⟩
    match a with
    | ⟨0, _⟩ => show (min (i 1).val ((nu (ix1 0)).toNat - 1) + 1) * 512 ≤ 36864; omega
    | ⟨1, _⟩ => show (0 + 1) * 7168 ≤ 7168; omega
  · have hj : (i 0).val < 2 := (i 0).isLt
    have hb := T.be_lt (i 1)
    rw [index1 T i]
    refine ⟨fun a => ?_, .inr (words1 _ _ rfl)⟩
    match a with
    | ⟨0, _⟩ => show ((be (ix1 (i 1))).toNat + 1) * 1 ≤ 8; omega
    | ⟨1, _⟩ => show (0 + 1) * 7168 ≤ 7168; omega
    | ⟨2, _⟩ => show ((i 0).val + 1) * 1024 ≤ 2048; omega

/-- The tables the region finds are the call's two last arguments, so the precondition gives what is needed of them. -/
theorem tables_of (m : (ℓ : Loc nD τ sig) → Buf (Elt F) ℓ)
    (h : ∀ c : Dev nD, Cert.Pre_tables_down.fn (F := F) (m ((c.tc : Thread nD τ).loc main_arg0)) (m ((c.tc : Thread nD τ).loc main_arg1))
      (m ((c.tc : Thread nD τ).loc main_arg2)) (m ((c.tc : Thread nD τ).loc main_arg3)) = fun _ => 1#1) (c : Dev nD) :
    Tables (tbl m) (m ((c.tc : Thread nD τ).loc main_arg2)) (m ((c.tc : Thread nD τ).loc main_arg3)) := by
  obtain rfl : c = 0 := Subsingleton.elim _ _
  obtain ⟨h0, h1, h2⟩ := Cert.Pre_tables_down.tables _ _ _ _ (h 0)
  exact ⟨V_main_arg2 m 0, V_main_arg3 m 0, h0, h1, h2⟩

end Cert.MoeDownIdeal.Down

end
-- ==== Proof.DownRef.lean ====
/- The experts' output projection's reference, as rows through their experts' matrices. -/
module

public import proofs.«01_k».proof.Proof.DownTables
public import proofs.«01_k».proof.Proof.Gen.MoeDownRefIdeal.Run
public import proofs.«01_k».proof.Proof.Gen.MoeDownRefIdeal.Read
public import Idealize.ShloMosaic.Lib.Pointwise

@[expose] public section

set_option maxRecDepth 16384

noncomputable section

namespace Cert.MoeDownIdeal.Down

open Cert.MoeDownIdeal Cert.MoeDownIdeal.Gen Idealize.ShloMosaic Idealize.ShloMosaic.TcCoe Idealize.SL.Sem

/-- The expert of a row: its row block's. -/
def expert (be : IVec S72 32) (r : Fin 36864) : Fin 8 := ⟨min (be (ix1 ⟨r.val / 512, by omega⟩)).toNat 7, by omega⟩

/-- Every row that is in use through its expert's matrix, the rest zero. -/
def down (u : FVec Ideal S36864x7168 .bf16) (w : FVec Ideal S8x7168x2048 .f32) (be : IVec S72 32) (nu : IVec S1 32) :
    FVec Ideal S36864x2048 .f32 := fun i =>
  if (i 0).val / 512 < (nu (ix1 0)).toNat then ∑ k : Fin 7168, u (ix2 (i 0) k) * w (ix3 (expert be (i 0)) k (i 1)) else 0

end Cert.MoeDownIdeal.Down

namespace Cert.MoeDownRefIdeal.Rows

open Cert.MoeDownRefIdeal Cert.MoeDownRefIdeal.Gen Cert.MoeDownRefIdeal.Read Idealize.ShloMosaic Idealize.ShloMosaic.TcCoe Idealize.SL.Sem
open Cert.MoeDownIdeal.Down (expert down)

/-- The matrices taken by a list of numbers, read at an index. -/
theorem gather_at {α : Type} (x : S8x7168x2048.Idx → α) (idx : IVec S72x1 32) (q : Fin 72) (k : Fin 7168) (j : Fin 2048) :
    Host.gather gather_S8x7168x2048_S72x1_S72x7168x2048_12_0_n_n_0_1_171682048 x idx (ix3 q k j)
      = x (ix3 ⟨min (idx (ix2 q 0)).toInt.toNat 7, by omega⟩ k j) := by
  unfold Host.gather
  refine congrArg x (funext fun a => Fin.ext ?_)
  generalize hd : gather_S8x7168x2048_S72x1_S72x7168x2048_12_0_n_n_0_1_171682048 = d
  match a with
  | ⟨0, _⟩ =>
    show d.start (ix3 q k j) idx 0 + d.batchCoord (ix3 q k j) 0 + d.offCoord (ix3 q k j) 0 = min (idx (ix2 q 0)).toInt.toNat 7
    subst hd
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S8x7168x2048_S72x1_S72x7168x2048_12_0_n_n_0_1_171682048.startIndexMap from List.mem_singleton.mpr rfl)]
    have hsi : gather_S8x7168x2048_S72x1_S72x7168x2048_12_0_n_n_0_1_171682048.siIdx (ix3 q k j)
        ⟨List.idxOf (0 : Fin 3) gather_S8x7168x2048_S72x1_S72x7168x2048_12_0_n_n_0_1_171682048.startIndexMap,
        List.idxOf_lt_length_iff.2 (List.mem_singleton.mpr rfl)⟩ = ix2 q 0 := by
      funext b; refine Fin.ext ?_
      match b with
      | ⟨0, _⟩ => rfl
      | ⟨1, _⟩ => rfl
    rw [hsi]
    rfl
  | ⟨1, _⟩ =>
    show d.start (ix3 q k j) idx 1 + d.batchCoord (ix3 q k j) 1 + d.offCoord (ix3 q k j) 1 = k.val
    subst hd
    rw [GatherDims.batchCoord_eq_zero _ _ _ List.not_mem_nil, Nat.add_zero]
    unfold GatherDims.start GatherDims.offCoord
    rw [dif_neg (by decide), dif_pos (by decide), Nat.zero_add]
    rfl
  | ⟨2, _⟩ =>
    show d.start (ix3 q k j) idx 2 + d.batchCoord (ix3 q k j) 2 + d.offCoord (ix3 q k j) 2 = j.val
    subst hd
    rw [GatherDims.batchCoord_eq_zero _ _ _ List.not_mem_nil, Nat.add_zero]
    unfold GatherDims.start GatherDims.offCoord
    rw [dif_neg (by decide), dif_pos (by decide), Nat.zero_add]
    rfl

/-- A row block's expert as the reference takes it: its word, which is below eight. -/
theorem taken (be : IVec S72 32) (hb : ∀ q : Fin 72, (be (ix1 q)).toNat < 8) (q : Fin 72) :
    (val_main_v7 (F := Ideal) be (ix2 q 0)).toInt.toNat = (be (ix1 q)).toNat := by
  have hq := hb q
  have e : val_main_v7 (F := Ideal) be (ix2 q 0) = be (ix1 q) := by
    pointwise [val_main_v7, val_main_v6, val_main_v3, val_main_v2, val_main_c]
    generalize be (ix1 q) = w at hq
    have hw : w.toInt = (w.toNat : ℤ) := by rw [BitVec.toInt]; omega
    have h0 : IntOp.cmpi CmpIPredicate.slt w 0#32 = 0#1 := by
      simp only [IntOp.cmpi, BitVec.slt, hw, BitVec.toInt_zero]
      rw [decide_eq_false (by omega)]
      rfl
    rw [h0]
    rfl
  rw [e]
  generalize be (ix1 q) = w at hq
  have hw : w.toInt = (w.toNat : ℤ) := by rw [BitVec.toInt]; omega
  omega

/-- Whether a row block is in use, as the reference tells it. -/
theorem used (nu : IVec S1 32) (hn : (nu (ix1 0)).toNat ≤ 72) (q : Fin 72) :
    val_main_v13 (F := Ideal) nu (ix1 q) = if q.val < (nu (ix1 0)).toNat then 1#1 else 0#1 := by
  have e : val_main_v12 (F := Ideal) nu (ix1 q) = nu (ix1 0) := by
    unfold val_main_v12 val_main_v11
    show shapeCast _ nu _ _ = _
    unfold shapeCast
    exact congrArg nu (Cert.Pre_tables_down.one_idx _ _)
  rw [val_main_v13_apply, val_main_v10_apply, e]
  generalize nu (ix1 0) = w at hn
  have hq : q.val < 72 := q.isLt
  have hw : w.toInt = (w.toNat : ℤ) := by rw [BitVec.toInt]; omega
  have hu : (BitVec.ofNat 32 q.val).toInt = ((q.val : ℕ) : ℤ) := by rw [BitVec.toInt, BitVec.toNat_ofNat]; omega
  show IntOp.cmpi .slt (BitVec.ofNat 32 q.val) w = _
  simp only [IntOp.cmpi, BitVec.slt, hw, hu, Nat.cast_lt]
  by_cases h : q.val < w.toNat <;> simp [h]

/-- The rows through their experts' matrices are the reference's result. -/
theorem result_eq (u : FVec Ideal S36864x7168 .bf16) (w : FVec Ideal S8x7168x2048 .f32) (be : IVec S72 32) (nu : IVec S1 32)
    (hb : ∀ q : Fin 72, (be (ix1 q)).toNat < 8) (hn : (nu (ix1 0)).toNat ≤ 72) :
    down u w be nu = val_main_v16 (F := Ideal) u w be nu := by
  funext i
  idx_vars i
  have h0 : i0.val < 36864 := i0.isLt
  have e8 : ∀ (q : Fin 72) (k : Fin 7168) (j : Fin 2048), val_main_v8 (F := Ideal) w be (ix3 q k j)
      = w (ix3 ⟨min (be (ix1 q)).toNat 7, by omega⟩ k j) := fun q k j => by
    unfold val_main_v8
    rw [gather_at]
    simp only [taken be hb q]
  have hu := used nu hn ⟨i0.val / 512, by omega⟩
  pointwise [down, val_main_v16, val_main_v15, val_main_v9, val_main_v1, val_main_v0, val_main_call0_v0, val_main_call0_v1, val_main_call0_v2, val_main_cst, val_main_v14]
  rw [hu]
  simp only [e8]
  by_cases h : i0.val / 512 < (nu (ix1 0)).toNat
  · rw [if_pos h, if_pos h]
    rfl
  · rw [if_neg h, if_neg h]
    show (0 : Ideal .f32) = FloatOps.ofBits .f32 0x00000000#32
    exact Ideal.ofBits_zero_f32.symm

end Cert.MoeDownRefIdeal.Rows

end
-- ==== Proof.DownValue.lean ====
/- The experts' output: the array the region leaves, and the reference's. -/
module

public import proofs.«01_k».proof.Proof.DownRef
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

namespace Cert.MoeDownIdeal.Down

open Cert.MoeDownIdeal Cert.MoeDownIdeal.Gen Idealize.ShloMosaic Idealize.ShloMosaic.TcCoe Idealize.SL.Sem

variable (m : (ℓ : Loc nD τ sig) → Buf (Elt Ideal) ℓ) (ρ : Dev nD → PrngReg)

/-- The weights the region finds. -/
theorem V_w (c : Dev nD) : V m c main_v0 = m ((c : Thread nD τ).loc main_arg1) := by
  unfold V
  after_results_simp
  rfl

/-- The coordinates of a point. -/
theorem coords_val : ∀ t : Fin grid0.N, (grid0.coords t 0).val = t.val / 72 ∧ (grid0.coords t 1).val = t.val % 72 := by
  decide +kernel

variable {m}

/-- A row block is in use when its number is below the second table's word. -/
theorem inUse_iff {be : IVec S72 32} {nu : IVec S1 32} (T : Tables (tbl m) be nu) (c : Dev nD) (t : Fin grid0.N) :
    InUse c (grid0.coords t) (tbl m 1) ↔ t.val % 72 < (nu (ix1 0)).toNat := by
  have hw : usedWord c (tbl m 1) = nu (ix1 0) := by
    show tbl m 1 _ = _
    rw [T.nu_eq]
    exact congrArg nu (Cert.Pre_tables_down.one_idx _ _)
  have h2 := T.le_all
  unfold InUse
  rw [hw]
  unfold k0_cond1
  dsimp only
  rw [(coords_val t).2]
  generalize nu (ix1 0) = w at h2
  have hi : t.val % 72 < 72 := Nat.mod_lt _ (by decide)
  have ht : w.toInt = (w.toNat : ℤ) := by rw [BitVec.toInt]; omega
  have hu : (BitVec.ofNat 32 (t.val % 72)).toInt = ((t.val % 72 : ℕ) : ℤ) := by rw [BitVec.toInt, BitVec.toNat_ofNat]; omega
  simp only [Scalar.cmpi, Scalar.extui, IntOp.cmpi, BitVec.slt, ht, hu, Nat.cast_lt]
  by_cases h : t.val % 72 < w.toNat
  · simp [h]
  · simp [h]

/-- The block indices of the region's windows. -/
theorem idx {be : IVec S72 32} {nu : IVec S1 32} (T : Tables (tbl m) be nu) (hO : Ok m) (t : Fin (cfgM m hO).N) :
    ((cfgM m hO).win 0).index t = ![min (t.val % 72) ((nu (ix1 0)).toNat - 1), 0]
    ∧ ((cfgM m hO).win 1).index t = ![(be (ix1 ⟨t.val % 72, Nat.mod_lt _ (by decide)⟩)).toNat, 0, t.val / 72]
    ∧ ((cfgM m hO).win 2).index t = ![t.val % 72, t.val / 72] := by
  obtain ⟨e0, e1⟩ := coords_val t
  refine ⟨?_, ?_, ?_⟩
  · refine (index0 T (grid0.coords t)).trans ?_
    rw [e1]
  · refine (index1 T (grid0.coords t)).trans ?_
    rw [e0, show grid0.coords t 1 = (⟨t.val % 72, Nat.mod_lt _ (by decide)⟩ : Fin 72) from Fin.ext e1]
  · exact (by decide +kernel : ∀ t : Fin grid0.N, cc0_transform_2 (grid0.coords t) = ![t.val % 72, t.val / 72]) t

/-- Where an element of the rows' block lies in its array. -/
theorem emb0 (hO : Ok m) (t : Fin (cfgM m hO).N) (z : S512x7168.Idx) :
    ((((pcfg0.win (adm m hO) 0).blk t).view.emb z) 0).val = (pcfg0.win (adm m hO) 0).index t 0 * 512 + (z 0).val
    ∧ ((((pcfg0.win (adm m hO) 0).blk t).view.emb z) 1).val = (pcfg0.win (adm m hO) 0).index t 1 * 7168 + (z 1).val := by
  constructor <;> blk_simp

/-- Where an element of the weights' block lies in its array. -/
theorem emb1 (hO : Ok m) (t : Fin (cfgM m hO).N) (z : S1x7168x1024.Idx) :
    ((((pcfg0.win (adm m hO) 1).blk t).view.emb z) 0).val = (pcfg0.win (adm m hO) 1).index t 0 + (z 0).val
    ∧ ((((pcfg0.win (adm m hO) 1).blk t).view.emb z) 1).val = (pcfg0.win (adm m hO) 1).index t 1 * 7168 + (z 1).val
    ∧ ((((pcfg0.win (adm m hO) 1).blk t).view.emb z) 2).val = (pcfg0.win (adm m hO) 1).index t 2 * 1024 + (z 2).val := by
  refine ⟨?_, ?_, ?_⟩ <;> blk_simp

/-- Where an element of the result's block lies in its array. -/
theorem emb2 {be : IVec S72 32} {nu : IVec S1 32} (T : Tables (tbl m) be nu) (hO : Ok m) (t : Fin (cfgM m hO).N) (y : S512x1024.Idx) :
    ((((pcfg0.win (adm m hO) 2).blk t).view.emb y) 0).val = t.val % 72 * 512 + (y 0).val
    ∧ ((((pcfg0.win (adm m hO) 2).blk t).view.emb y) 1).val = t.val / 72 * 1024 + (y 1).val
    ∧ ((((pcfg0.win (adm m hO) 2).blk t).view.emb y) 0).val / 512 = t.val % 72 := by
  have i2 : (pcfg0.win (adm m hO) 2).index t = ![t.val % 72, t.val / 72] := (idx T hO t).2.2
  have row : ((((pcfg0.win (adm m hO) 2).blk t).view.emb y) 0).val = t.val % 72 * 512 + (y 0).val := by
    blk_simp [i2]
  refine ⟨row, ?_, ?_⟩
  · blk_simp
    exact congrArg (fun n => n * 1024 + (y 1).val) (congrFun i2 1)
  · have := (y 0).isLt
    change _ < 512 at this
    omega

/-- The rows' block at a point in use holds the rows of the result's block. -/
theorem rows {be : IVec S72 32} {nu : IVec S1 32} (T : Tables (tbl m) be nu) (hO : Ok m) (t : Fin (cfgM m hO).N)
    (hu : t.val % 72 < (nu (ix1 0)).toNat) (y : S512x1024.Idx) (k : Fin 7168) :
    ((pcfg0.win (adm m hO) 0).blk t).view.emb (ix2 (y 0) k) = ix2 (((pcfg0.win (adm m hO) 2).blk t).view.emb y 0) k := by
  obtain ⟨row, -, -⟩ := emb2 T hO t y
  have i0 : (pcfg0.win (adm m hO) 0).index t = ![min (t.val % 72) ((nu (ix1 0)).toNat - 1), 0] := (idx T hO t).1
  have b0 : (pcfg0.win (adm m hO) 0).index t 0 = min (t.val % 72) ((nu (ix1 0)).toNat - 1) := congrFun i0 0
  have b1 : (pcfg0.win (adm m hO) 0).index t 1 = 0 := congrFun i0 1
  obtain ⟨a0, a1⟩ := emb0 hO t (ix2 (y 0) k)
  rw [b0] at a0
  rw [b1] at a1
  funext a
  refine Fin.ext ?_
  match a with
  | ⟨0, _⟩ => exact a0.trans ((congrArg (fun n => n * 512 + (y 0).val) (Nat.min_eq_left (by omega))).trans row.symm)
  | ⟨1, _⟩ => exact a1.trans (by simp)

/-- The weights' block at a point holds the columns of the result's block, of the matrix of its rows' expert. -/
theorem weights {be : IVec S72 32} {nu : IVec S1 32} (T : Tables (tbl m) be nu) (hO : Ok m) (t : Fin (cfgM m hO).N)
    (y : S512x1024.Idx) (k : Fin 7168) :
    ((pcfg0.win (adm m hO) 1).blk t).view.emb (ix3 0 k (y 1))
      = ix3 (expert be (((pcfg0.win (adm m hO) 2).blk t).view.emb y 0)) k (((pcfg0.win (adm m hO) 2).blk t).view.emb y 1) := by
  obtain ⟨-, col, hrow⟩ := emb2 T hO t y
  have hb := T.be_lt ⟨t.val % 72, Nat.mod_lt _ (by decide)⟩
  have hex : (expert be (((pcfg0.win (adm m hO) 2).blk t).view.emb y 0)).val
      = (be (ix1 ⟨t.val % 72, Nat.mod_lt _ (by decide)⟩)).toNat := by
    unfold expert
    simp only [hrow]
    omega
  have i1 : (pcfg0.win (adm m hO) 1).index t = ![(be (ix1 ⟨t.val % 72, Nat.mod_lt _ (by decide)⟩)).toNat, 0, t.val / 72] :=
    (idx T hO t).2.1
  have b0 : (pcfg0.win (adm m hO) 1).index t 0 = (be (ix1 ⟨t.val % 72, Nat.mod_lt _ (by decide)⟩)).toNat := congrFun i1 0
  have b1 : (pcfg0.win (adm m hO) 1).index t 1 = 0 := congrFun i1 1
  have b2 : (pcfg0.win (adm m hO) 1).index t 2 = t.val / 72 := congrFun i1 2
  obtain ⟨a0, a1, a2⟩ := emb1 hO t (ix3 0 k (y 1))
  rw [b0] at a0
  rw [b1] at a1
  rw [b2] at a2
  funext a
  refine Fin.ext ?_
  match a with
  | ⟨0, _⟩ => exact a0.trans hex.symm
  | ⟨1, _⟩ => exact a1.trans (by simp)
  | ⟨2, _⟩ => exact a2.trans col.symm

/-- What the body stores where the row block is in use is the rows through their expert's matrix. -/
theorem point_A {be : IVec S72 32} {nu : IVec S1 32} (T : Tables (tbl m) be nu) (hO : Ok m) (c : Dev nD) (t : Fin (cfgM m hO).N)
    (hu : t.val % 72 < (nu (ix1 0)).toNat) (y) :
    k0_pay1 (iblk m hO c 0 t) (iblk m hO c 1 t) y
      = down (V m c main_arg0) (V m c main_v0) be nu ((((cfgM m hO).win 2).blk t).view.emb y) := by
  unfold iblk
  generalize V m c = Z
  obtain ⟨-, -, hrow⟩ := emb2 T hO t y
  pointwise [k0_pay1, down]
  rw [if_pos (hrow ▸ hu)]
  refine Finset.sum_congr rfl fun k _ => ?_
  congr 1
  · show Z main_arg0 _ = Z main_arg0 _
    exact congrArg (Z main_arg0) (rows T hO t hu y k)
  · show Z main_v0 _ = Z main_v0 _
    exact congrArg (Z main_v0) (weights T hO t y k)

/-- What the body stores where the row block is not in use is zero. -/
theorem point_B {be : IVec S72 32} {nu : IVec S1 32} (T : Tables (tbl m) be nu) (hO : Ok m) (c : Dev nD) (t : Fin (cfgM m hO).N)
    (hu : ¬t.val % 72 < (nu (ix1 0)).toNat) (y : S512x1024.Idx) :
    k0_pay2 (F := Ideal) y = down (V m c main_arg0) (V m c main_v0) be nu ((((cfgM m hO).win 2).blk t).view.emb y) := by
  obtain ⟨-, -, hrow⟩ := emb2 T hO t y
  unfold down
  rw [if_neg (hrow ▸ hu)]
  pointwise [k0_pay2]

/-- Where the row block is in use the body leaves the product of its two blocks. -/
theorem out_A (c : Dev nD) (i : grid0.Coords) (arg4 : Memref sig .tc .vmem S512x7168 .bf16) (harg4 : arg4.IsWhole) (arg5 : Memref sig .tc .vmem S1x7168x1024 .bf16) (harg5 : arg5.IsWhole) (arg6 : Memref sig .tc .vmem S512x1024 .f32) (harg6 : arg6.IsWhole)
    (x0 : Vec Ideal S512x7168 .bf16) (x1 : Vec Ideal S1x7168x1024 .bf16) (xt0 : TbBuf0 (F := Ideal) c tbM0_0) (xt1 : TbBuf0 (F := Ideal) c tbM0_1) (h : InUse c i xt1) :
    out0_A_2 c i arg4 harg4 arg5 harg5 arg6 harg6 x0 x1 xt0 xt1 h = k0_pay1 x0 x1 := by
  unfold out0_A_2 kernelRun0_A
  dsimp only
  simp (disch := decide) only [View.read_writes_junk_eq_canon, View.canon_cons_unit_lit',
    View.ld_unit_lit', View.readCov_unit_lit', View.readCov_cons_unit_lit', View.readAt_eq_ld,
    Memref.IsWhole.read_unread]
  unfold kernelRun0_A.sl.H2_1
  simp (disch := decide) only [View.read_writes_junk_eq_canon, View.canon_cons_unit_lit',
    View.ld_unit_lit', View.readCov_unit_lit', View.readCov_cons_unit_lit', View.readAt_eq_ld,
    Memref.IsWhole.read_unread]

/-- Where it is not the body leaves zeros. -/
theorem out_B (c : Dev nD) (i : grid0.Coords) (arg4 : Memref sig .tc .vmem S512x7168 .bf16) (harg4 : arg4.IsWhole) (arg5 : Memref sig .tc .vmem S1x7168x1024 .bf16) (harg5 : arg5.IsWhole) (arg6 : Memref sig .tc .vmem S512x1024 .f32) (harg6 : arg6.IsWhole)
    (x0 : Vec Ideal S512x7168 .bf16) (x1 : Vec Ideal S1x7168x1024 .bf16) (xt0 : TbBuf0 (F := Ideal) c tbM0_0) (xt1 : TbBuf0 (F := Ideal) c tbM0_1) (h : ¬InUse c i xt1) :
    out0_B_2 c i arg4 harg4 arg5 harg5 arg6 harg6 x0 x1 xt0 xt1 h = k0_pay2 (F := Ideal) := by
  unfold out0_B_2 kernelRun0_B
  dsimp only
  simp (disch := decide) only [View.read_writes_junk_eq_canon, View.canon_cons_unit_lit',
    View.ld_unit_lit', View.readCov_unit_lit', View.readCov_cons_unit_lit', View.readAt_eq_ld,
    Memref.IsWhole.read_unread]
  unfold kernelRun0_B.sl.H2_1
  simp (disch := decide) only [View.read_writes_junk_eq_canon, View.canon_cons_unit_lit',
    View.ld_unit_lit', View.readCov_unit_lit', View.readCov_cons_unit_lit', View.readAt_eq_ld,
    Memref.IsWhole.read_unread]

/-- What the body leaves at a point is the blockwise reading of the result. -/
theorem point {be : IVec S72 32} {nu : IVec S1 32} (T : Tables (tbl m) be nu) (hO : Ok m) (c : Dev nD)
    (t : Fin (cfgM m hO).N) (y : S512x1024.Idx) :
    outsAt0 m hO c t y = down (V m c main_arg0) (V m c main_v0) be nu (((cfgM m hO).win 2).blk t |>.view.emb y) := by
  unfold outsAt0
  by_cases hu : InUse c (grid0.coords t) (tbl m 1)
  · rw [dif_pos hu]
    exact (congrFun (out_A ..) y).trans (point_A T hO c t ((inUse_iff T c t).mp hu) y)
  · rw [dif_neg hu]
    exact (congrFun (out_B ..) y).trans (point_B T hO c t (fun h => hu ((inUse_iff T c t).mpr h)) y)

/-- The output's blocks cover the result. -/
theorem cover {be : IVec S72 32} {nu : IVec S1 32} (T : Tables (tbl m) be nu) (hO : Ok m) : ((cfgM m hO).win 2).Covers := by
  refine Pipeline.Window.covers_of_index_surj _ rfl (show ∀ a : Fin 2, 0 < (![512, 1024] : Fin 2 → ℕ) a by decide) fun β => ?_
  have h0 : (β (0 : Fin 2)).val < 72 := lt_of_lt_of_eq (β (0 : Fin 2)).isLt (show (36864 + 512 - 1) / 512 = 72 by norm_num)
  have h1 : (β (1 : Fin 2)).val < 2 := lt_of_lt_of_eq (β (1 : Fin 2)).isLt (show (2048 + 1024 - 1) / 1024 = 2 by norm_num)
  have hN : (cfgM m hO).grid.N = 144 := (by decide +kernel : grid0.N = 144)
  have ht : (β (1 : Fin 2)).val * 72 + (β (0 : Fin 2)).val < (cfgM m hO).grid.N := by rw [hN]; omega
  refine ⟨⟨_, ht⟩, fun a => ?_⟩
  have i2 := (idx T hO ⟨_, ht⟩).2.2
  refine (congrFun i2 a).trans ?_
  match a with
  | ⟨0, _⟩ => show ((β (1 : Fin 2)).val * 72 + (β (0 : Fin 2)).val) % 72 = (β (0 : Fin 2)).val; omega
  | ⟨1, _⟩ => show ((β (1 : Fin 2)).val * 72 + (β (0 : Fin 2)).val) / 72 = (β (1 : Fin 2)).val; omega

/-- The array the region leaves. -/
theorem final {be : IVec S72 32} {nu : IVec S1 32} (T : Tables (tbl m) be nu) (hO : Ok m) (c : Dev nD) :
    (dats m hO 0 c).arrAt 2 (cfgM m hO).N
      = down (m ((c : Thread nD τ).loc main_arg0)) (m ((c : Thread nD τ).loc main_arg1)) be nu := by
  rw [← V_w m c, ← V_main_arg0 m c]
  refine (dats m hO 0 c).arrAt_eq_of_covers 2 _ (cover T hO) fun t _ y => ?_
  rw [after0_2]
  exact point T hO c t y

/-- The run leaves the region's array in the result and the arguments as they were. -/
theorem run_result (ρ : Dev nD → PrngReg) (hO : Ok m) : θ_run defs (onTc (τ := τ) (main (F := Ideal))) ⟨m, fun _ => 0, ρ⟩ (fun r => ∀ c : Dev nD,
      r.2.mem ((c.tc : Thread nD τ).loc main_v1) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 2,
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) (run_main m ρ hO)

/-- The experts' output projection's result is its reference's, for tables whose words lie in their ranges. -/
theorem algebraic : Cert.algebraic_MoeDownIdeal_MoeDownRefIdeal := by
  intro m g m' g' hpre hagree
  have T := fun c => tables_of m hpre c
  have hO : Ok m := ok_of (T 0)
  refine ⟨fun c => (dats m hO 0 c).arrAt 2 (cfgM m hO).N, ?_, ?_⟩
  · exact run_result g hO
  · refine (θ_run _ _ _).mono (fun _ h c => ⟨(h c).1.trans ?_, (h c).2⟩) (Cert.MoeDownRefIdeal.Value.run m' g')
    obtain ⟨h0, h1, h2, h3⟩ := hagree c
    rw [Cert.MoeDownRefIdeal.Read.val_main_v16_eq, h0, h1, h2, h3]
    exact ((final (T c) hO c).trans (Cert.MoeDownRefIdeal.Rows.result_eq _ _ _ _ (T c).be_lt (T c).le_all)).symm

end Cert.MoeDownIdeal.Down

end
-- ==== Proof.DownBits.lean ====
/- The experts' output projection as printed: its frame, from the run over any float values. -/
module

public import proofs.«01_k».proof.Proof.DownTables
public import proofs.«01_k».proof.Proof.Gen.MoeDown

@[expose] public section

set_option maxRecDepth 16384

noncomputable section

namespace Cert.MoeDown.Down

open Idealize.ShloMosaic Idealize.SL.Sem

/-- The two programs' kernels run the same body. -/
theorem body_eq : Cert.MoeDown.defs₀ (F := Bits) = Cert.MoeDownIdeal.defs₀ (F := Bits) := by
  unfold Cert.MoeDown.defs₀ Cert.MoeDownIdeal.defs₀
  refine congrArg Defs.onTc (funext fun l => funext fun a => ?_)
  match l, a with
  | 0, (t, s) => rfl

/-- The two programs' tables of bodies are the same. -/
theorem defs_eq : Cert.MoeDown.defs (F := Bits) = Cert.MoeDownIdeal.defs (F := Bits) := by
  unfold Cert.MoeDown.defs Cert.MoeDownIdeal.defs
  exact congrArg (Pipeline.defs Cert.MoeDownIdeal.pcfgs) body_eq

/-- The frame of the call as printed. -/
theorem frame : Cert.quiescent_MoeDown := by
  intro m ρ h
  have hf := Cert.MoeDownIdeal.Down.frame (F := Bits) m ρ
    (Cert.MoeDownIdeal.Down.ok_of (Cert.MoeDownIdeal.Down.tables_of m h 0))
  rw [← defs_eq] at hf
  exact hf

end Cert.MoeDown.Down

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Pre_finite_att
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.FfnRefIdeal.Run
public import proofs.«01_k».proof.Proof.Gen.FfnRefIdeal.Read
public import proofs.«01_k».proof.Proof.Gen.InProjRefIdeal.Run
public import proofs.«01_k».proof.Proof.Gen.InProjRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.MergeIdeal.Value
public import proofs.«01_k».proof.Proof.Gen.OutProjIdeal.Value
public import Idealize.ShloMosaic.Adequacy
public import Idealize.ShloMosaic.Init
public import proofs.«01_k».proof.Proof.FfnClaim
public import proofs.«01_k».proof.Proof.InClaim
public import proofs.«01_k».proof.Proof.OutValue
public import proofs.«01_k».proof.Proof.MergeValue
public import proofs.«01_k».proof.Proof.AttClaim
public import proofs.«01_k».proof.Proof.DownValue
public import proofs.«01_k».proof.Proof.DownBits
public import proofs.«01_k».proof.Proof.Gen.MoeDown
public import proofs.«01_k».proof.Proof.Gen.MoeDownIdeal
public import proofs.«01_k».proof.Proof.Gen.MoeDownRefIdeal
public import proofs.«01_k».proof.Proof.Gen.Pre_tables_down

@[expose] public section

noncomputable section

namespace Cert.Proof

open Idealize.ShloMosaic Idealize.SL.Sem

/-- Every claim of the certificate: frames, unchanged operations and equal results. -/
theorem claim : Cert.Claim :=
  ⟨Cert.Kernel.Gen.facts,
    Cert.KernelIdeal.Gen.facts,
    Cert.ReferenceIdeal.Gen.facts,
    Cert.Ffn.Gen.facts,
    Cert.FfnIdeal.Gen.facts,
    Cert.FfnRefIdeal.Gen.facts,
    Cert.InProj.Gen.facts,
    Cert.InProjIdeal.Gen.facts,
    Cert.InProjRefIdeal.Gen.facts,
    Cert.Merge.Gen.facts,
    Cert.MergeIdeal.Gen.facts,
    Cert.MergeRefIdeal.Gen.facts,
    Cert.OutProj.Gen.facts,
    Cert.OutProjIdeal.Gen.facts,
    Cert.OutProjRefIdeal.Gen.facts,
    Cert.MoeDown.Gen.facts,
    Cert.MoeDownIdeal.Gen.facts,
    Cert.MoeDownRefIdeal.Gen.facts,
    Cert.Pre_finite_att.Gen.facts,
    Cert.Pre_tables_down.Gen.facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono
      (fun r h => ⟨fun c => (h c).2, sem_eq_zero_of_no_sems (by decide) r.2⟩) (Cert.ReferenceIdeal.Value.run m ρ),
    fun m ρ _ => (θ_run _ _ _).mono
      (fun r h => ⟨fun c => (h c).2, sem_eq_zero_of_no_sems (by decide) r.2⟩) (Cert.ReferenceIdeal.Value.run m ρ),
    fun m ρ _ => Cert.Ffn.Gen.frame m ρ,
    fun m ρ _ => Cert.FfnIdeal.Gen.frame m ρ,
    fun m ρ _ => (θ_run _ _ _).mono
      (fun r h => ⟨fun c => (h c).2, sem_eq_zero_of_no_sems (by decide) r.2⟩) (Cert.FfnRefIdeal.Value.run m ρ),
    fun m ρ _ => Cert.InProj.Gen.frame m ρ,
    fun m ρ _ => Cert.InProjIdeal.Gen.frame m ρ,
    fun m ρ _ => (θ_run _ _ _).mono
      (fun r h => ⟨fun c => (h c).2, sem_eq_zero_of_no_sems (by decide) r.2⟩) (Cert.InProjRefIdeal.Value.run m ρ),
    fun m ρ _ => Cert.Merge.Gen.frame m ρ,
    fun m ρ _ => Cert.MergeIdeal.Gen.frame m ρ,
    fun m ρ _ => (θ_run _ _ _).mono
      (fun r h => ⟨fun c => (h c).2, sem_eq_zero_of_no_sems (by decide) r.2⟩) (Cert.MergeRefIdeal.Value.run m ρ),
    fun m ρ _ => Cert.OutProj.Gen.frame m ρ,
    fun m ρ _ => Cert.OutProjIdeal.Gen.frame m ρ,
    fun m ρ _ => (θ_run _ _ _).mono
      (fun r h => ⟨fun c => (h c).2, sem_eq_zero_of_no_sems (by decide) r.2⟩) (Cert.OutProjRefIdeal.Value.run m ρ),
    Cert.MoeDown.Down.frame,
    fun m ρ h => Cert.MoeDownIdeal.Down.frame m ρ (Cert.MoeDownIdeal.Down.ok_of (Cert.MoeDownIdeal.Down.tables_of m h 0)),
    fun m ρ _ => (θ_run _ _ _).mono
      (fun r h => ⟨fun c => (h c).2, sem_eq_zero_of_no_sems (by decide) r.2⟩) (Cert.MoeDownRefIdeal.Value.run m ρ),
    fun m ρ _ => (θ_run _ _ _).mono
      (fun r h => ⟨fun c => (h c).2, sem_eq_zero_of_no_sems (by decide) r.2⟩) (Cert.MoeDownRefIdeal.Value.run m ρ),
    trivial,
    Cert.KernelIdeal.Blocks.algebraic,
    trivial,
    Cert.FfnIdeal.Blocks.algebraic,
    trivial,
    Cert.InProjIdeal.Blocks.algebraic,
    trivial,
    Cert.MergeIdeal.Blocks.algebraic,
    trivial,
    Cert.OutProjIdeal.Blocks.algebraic,
    trivial,
    Cert.MoeDownIdeal.Down.algebraic⟩

end Cert.Proof

end
